-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_qkv [hPre_finite_qkv : Cert.Pre_finite_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSIdeal_finite_qkv_sample [hPre_finite_qkv_sample : Cert.Pre_finite_qkv_sample.Facts] (m : (ℓ : Loc Cert.QkvSIdeal.nD Cert.QkvSIdeal.τ Cert.QkvSIdeal.sig) → Buf (Elt Ideal) ℓ) : Prop :=
  ∀ c : Dev Cert.QkvSIdeal.nD,
    (Cert.Pre_finite_qkv_sample.fn (F := Ideal) (m ((c.tc : Thread Cert.QkvSIdeal.nD Cert.QkvSIdeal.τ).loc Cert.QkvSIdeal.main_arg0)) (m ((c.tc : Thread Cert.QkvSIdeal.nD Cert.QkvSIdeal.τ).loc Cert.QkvSIdeal.main_arg1)) (m ((c.tc : Thread Cert.QkvSIdeal.nD Cert.QkvSIdeal.τ).loc Cert.QkvSIdeal.main_arg2))) = (fun _ => 1#1)

def Pre_QkvSRefIdeal (m : (ℓ : Loc Cert.QkvSRefIdeal.nD Cert.QkvSRefIdeal.τ Cert.QkvSRefIdeal.sig) → Buf (Elt Ideal) ℓ) : Prop :=
  True

def Pre_QkvSRefIdeal_finite_qkv_sample [hPre_finite_qkv_sample : Cert.Pre_finite_qkv_sample.Facts] (m : (ℓ : Loc Cert.QkvSRefIdeal.nD Cert.QkvSRefIdeal.τ Cert.QkvSRefIdeal.sig) → Buf (Elt Ideal) ℓ) : Prop :=
  ∀ c : Dev Cert.QkvSRefIdeal.nD,
    (Cert.Pre_finite_qkv_sample.fn (F := Ideal) (m ((c.tc : Thread Cert.QkvSRefIdeal.nD Cert.QkvSRefIdeal.τ).loc Cert.QkvSRefIdeal.main_arg0)) (m ((c.tc : Thread Cert.QkvSRefIdeal.nD Cert.QkvSRefIdeal.τ).loc Cert.QkvSRefIdeal.main_arg1)) (m ((c.tc : Thread Cert.QkvSRefIdeal.nD Cert.QkvSRefIdeal.τ).loc Cert.QkvSRefIdeal.main_arg2))) = (fun _ => 1#1)

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvRefIdeal_pre_finite_qkv [hQkvRefIdeal : Cert.QkvRefIdeal.Facts] [hPre_finite_qkv : Cert.Pre_finite_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_qkv m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSIdeal_pre_finite_qkv_sample [hQkvSIdeal : Cert.QkvSIdeal.Facts] [hPre_finite_qkv_sample : Cert.Pre_finite_qkv_sample.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal_finite_qkv_sample m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_QkvSRefIdeal_pre_finite_qkv_sample [hQkvSRefIdeal : Cert.QkvSRefIdeal.Facts] [hPre_finite_qkv_sample : Cert.Pre_finite_qkv_sample.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal_finite_qkv_sample m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6)
      ∧ r.2.mem ((c.tc : Thread Cert.ConvS.nD Cert.ConvS.τ).loc Cert.ConvS.main_arg7) = m ((c.tc : Thread Cert.ConvS.nD Cert.ConvS.τ).loc Cert.ConvS.main_arg7)
      ∧ r.2.mem ((c.tc : Thread Cert.ConvS.nD Cert.ConvS.τ).loc Cert.ConvS.main_arg8) = m ((c.tc : Thread Cert.ConvS.nD Cert.ConvS.τ).loc Cert.ConvS.main_arg8)
      ∧ r.2.mem ((c.tc : Thread Cert.ConvS.nD Cert.ConvS.τ).loc Cert.ConvS.main_arg9) = m ((c.tc : Thread Cert.ConvS.nD Cert.ConvS.τ).loc Cert.ConvS.main_arg9))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
      ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
      ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
      ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6)
      ∧ r.2.mem ((c.tc : Thread Cert.ConvSRefIdeal.nD Cert.ConvSRefIdeal.τ).loc Cert.ConvSRefIdeal.main_arg7) = m ((c.tc : Thread Cert.ConvSRefIdeal.nD Cert.ConvSRefIdeal.τ).loc Cert.ConvSRefIdeal.main_arg7)
      ∧ r.2.mem ((c.tc : Thread Cert.ConvSRefIdeal.nD Cert.ConvSRefIdeal.τ).loc Cert.ConvSRefIdeal.main_arg8) = m ((c.tc : Thread Cert.ConvSRefIdeal.nD Cert.ConvSRefIdeal.τ).loc Cert.ConvSRefIdeal.main_arg8)
      ∧ r.2.mem ((c.tc : Thread Cert.ConvSRefIdeal.nD Cert.ConvSRefIdeal.τ).loc Cert.ConvSRefIdeal.main_arg9) = m ((c.tc : Thread Cert.ConvSRefIdeal.nD Cert.ConvSRefIdeal.τ).loc Cert.ConvSRefIdeal.main_arg9))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15)) (v1 : (c : Dev Cert.InProjIdeal.nD) → Buf (Elt Ideal) ((c.tc : Thread Cert.InProjIdeal.nD Cert.InProjIdeal.τ).loc Cert.InProjIdeal.main_v16)) (v2 : (c : Dev Cert.InProjIdeal.nD) → Buf (Elt Ideal) ((c.tc : Thread Cert.InProjIdeal.nD Cert.InProjIdeal.τ).loc Cert.InProjIdeal.main_v17)) (v3 : (c : Dev Cert.InProjIdeal.nD) → Buf (Elt Ideal) ((c.tc : Thread Cert.InProjIdeal.nD Cert.InProjIdeal.τ).loc Cert.InProjIdeal.main_v18)) (v4 : (c : Dev Cert.InProjIdeal.nD) → Buf (Elt Ideal) ((c.tc : Thread Cert.InProjIdeal.nD Cert.InProjIdeal.τ).loc Cert.InProjIdeal.main_v19)) (v5 : (c : Dev Cert.InProjIdeal.nD) → Buf (Elt Ideal) ((c.tc : Thread Cert.InProjIdeal.nD Cert.InProjIdeal.τ).loc Cert.InProjIdeal.main_v20)) (v6 : (c : Dev Cert.InProjIdeal.nD) → Buf (Elt Ideal) ((c.tc : Thread Cert.InProjIdeal.nD Cert.InProjIdeal.τ).loc Cert.InProjIdeal.main_v21)) (v7 : (c : Dev Cert.InProjIdeal.nD) → Buf (Elt Ideal) ((c.tc : Thread Cert.InProjIdeal.nD Cert.InProjIdeal.τ).loc Cert.InProjIdeal.main_v22)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_v16) = v1 c
          ∧ r.2.mem ((c.tc : Thread Cert.InProjIdeal.nD Cert.InProjIdeal.τ).loc Cert.InProjIdeal.main_v17) = v2 c
          ∧ r.2.mem ((c.tc : Thread Cert.InProjIdeal.nD Cert.InProjIdeal.τ).loc Cert.InProjIdeal.main_v18) = v3 c
          ∧ r.2.mem ((c.tc : Thread Cert.InProjIdeal.nD Cert.InProjIdeal.τ).loc Cert.InProjIdeal.main_v19) = v4 c
          ∧ r.2.mem ((c.tc : Thread Cert.InProjIdeal.nD Cert.InProjIdeal.τ).loc Cert.InProjIdeal.main_v20) = v5 c
          ∧ r.2.mem ((c.tc : Thread Cert.InProjIdeal.nD Cert.InProjIdeal.τ).loc Cert.InProjIdeal.main_v21) = v6 c
          ∧ r.2.mem ((c.tc : Thread Cert.InProjIdeal.nD Cert.InProjIdeal.τ).loc Cert.InProjIdeal.main_v22) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v18) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_v20) = v4 c
          ∧ r.2.mem ((c.tc : Thread Cert.InProjRefIdeal.nD Cert.InProjRefIdeal.τ).loc Cert.InProjRefIdeal.main_v21) = v5 c
          ∧ r.2.mem ((c.tc : Thread Cert.InProjRefIdeal.nD Cert.InProjRefIdeal.τ).loc Cert.InProjRefIdeal.main_v22) = v6 c
          ∧ r.2.mem ((c.tc : Thread Cert.InProjRefIdeal.nD Cert.InProjRefIdeal.τ).loc Cert.InProjRefIdeal.main_v23) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Qkv_QkvIdeal : Prop :=
  True

def algebraic_QkvIdeal_QkvRefIdeal_pre_finite_qkv [hQkvIdeal : Cert.QkvIdeal.Facts] [hQkvRefIdeal : Cert.QkvRefIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_qkv m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v10_0)) (v1 : (c : Dev Cert.QkvIdeal.nD) → Buf (Elt Ideal) ((c.tc : Thread Cert.QkvIdeal.nD Cert.QkvIdeal.τ).loc Cert.QkvIdeal.main_v10_1)) (v2 : (c : Dev Cert.QkvIdeal.nD) → Buf (Elt Ideal) ((c.tc : Thread Cert.QkvIdeal.nD Cert.QkvIdeal.τ).loc Cert.QkvIdeal.main_v10_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10_0) = v0 c
          ∧ r.2.mem ((c.tc : Thread Cert.QkvIdeal.nD Cert.QkvIdeal.τ).loc Cert.QkvIdeal.main_v10_1) = v1 c
          ∧ r.2.mem ((c.tc : Thread Cert.QkvIdeal.nD Cert.QkvIdeal.τ).loc Cert.QkvIdeal.main_v10_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v36) = v0 c
          ∧ r.2.mem ((c.tc : Thread Cert.QkvRefIdeal.nD Cert.QkvRefIdeal.τ).loc Cert.QkvRefIdeal.main_v37) = v1 c
          ∧ r.2.mem ((c.tc : Thread Cert.QkvRefIdeal.nD Cert.QkvRefIdeal.τ).loc Cert.QkvRefIdeal.main_v2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v17)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v17) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v5) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v8)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v8) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v22) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_QkvS_QkvSIdeal : Prop :=
  True

def algebraic_QkvSIdeal_QkvSRefIdeal_pre_finite_qkv_sample [hQkvSIdeal : Cert.QkvSIdeal.Facts] [hQkvSRefIdeal : Cert.QkvSRefIdeal.Facts] [hPre_finite_qkv_sample : Cert.Pre_finite_qkv_sample.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal_finite_qkv_sample m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v10_0)) (v1 : (c : Dev Cert.QkvSIdeal.nD) → Buf (Elt Ideal) ((c.tc : Thread Cert.QkvSIdeal.nD Cert.QkvSIdeal.τ).loc Cert.QkvSIdeal.main_v10_1)) (v2 : (c : Dev Cert.QkvSIdeal.nD) → Buf (Elt Ideal) ((c.tc : Thread Cert.QkvSIdeal.nD Cert.QkvSIdeal.τ).loc Cert.QkvSIdeal.main_v10_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v10_0) = v0 c
          ∧ r.2.mem ((c.tc : Thread Cert.QkvSIdeal.nD Cert.QkvSIdeal.τ).loc Cert.QkvSIdeal.main_v10_1) = v1 c
          ∧ r.2.mem ((c.tc : Thread Cert.QkvSIdeal.nD Cert.QkvSIdeal.τ).loc Cert.QkvSIdeal.main_v10_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v36) = v0 c
          ∧ r.2.mem ((c.tc : Thread Cert.QkvSRefIdeal.nD Cert.QkvSRefIdeal.τ).loc Cert.QkvSRefIdeal.main_v37) = v1 c
          ∧ r.2.mem ((c.tc : Thread Cert.QkvSRefIdeal.nD Cert.QkvSRefIdeal.τ).loc Cert.QkvSRefIdeal.main_v2) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)
      ∧ m' ((c.tc : Thread Cert.ConvSRefIdeal.nD Cert.ConvSRefIdeal.τ).loc Cert.ConvSRefIdeal.main_arg7) = m ((c.tc : Thread Cert.ConvSIdeal.nD Cert.ConvSIdeal.τ).loc Cert.ConvSIdeal.main_arg7)
      ∧ m' ((c.tc : Thread Cert.ConvSRefIdeal.nD Cert.ConvSRefIdeal.τ).loc Cert.ConvSRefIdeal.main_arg8) = m ((c.tc : Thread Cert.ConvSIdeal.nD Cert.ConvSIdeal.τ).loc Cert.ConvSIdeal.main_arg8)
      ∧ m' ((c.tc : Thread Cert.ConvSRefIdeal.nD Cert.ConvSRefIdeal.τ).loc Cert.ConvSRefIdeal.main_arg9) = m ((c.tc : Thread Cert.ConvSIdeal.nD Cert.ConvSIdeal.τ).loc Cert.ConvSIdeal.main_arg9)) →
    ∃ (v0 : (c : Dev Cert.ConvSIdeal.nD) → Buf (Elt Ideal) ((c.tc : Thread Cert.ConvSIdeal.nD Cert.ConvSIdeal.τ).loc Cert.ConvSIdeal.main_v20)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v20) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
          ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
          ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
          ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v5) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6)
          ∧ r.2.mem ((c.tc : Thread Cert.ConvSRefIdeal.nD Cert.ConvSRefIdeal.τ).loc Cert.ConvSRefIdeal.main_arg7) = m' ((c.tc : Thread Cert.ConvSRefIdeal.nD Cert.ConvSRefIdeal.τ).loc Cert.ConvSRefIdeal.main_arg7)
          ∧ r.2.mem ((c.tc : Thread Cert.ConvSRefIdeal.nD Cert.ConvSRefIdeal.τ).loc Cert.ConvSRefIdeal.main_arg8) = m' ((c.tc : Thread Cert.ConvSRefIdeal.nD Cert.ConvSRefIdeal.τ).loc Cert.ConvSRefIdeal.main_arg8)
          ∧ r.2.mem ((c.tc : Thread Cert.ConvSRefIdeal.nD Cert.ConvSRefIdeal.τ).loc Cert.ConvSRefIdeal.main_arg9) = m' ((c.tc : Thread Cert.ConvSRefIdeal.nD Cert.ConvSRefIdeal.τ).loc Cert.ConvSRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hQkv : Cert.Qkv.Facts) (hQkvIdeal : Cert.QkvIdeal.Facts) (hQkvRefIdeal : Cert.QkvRefIdeal.Facts) (hConv : Cert.Conv.Facts) (hConvIdeal : Cert.ConvIdeal.Facts) (hConvRefIdeal : Cert.ConvRefIdeal.Facts) (hFfnS : Cert.FfnS.Facts) (hFfnSIdeal : Cert.FfnSIdeal.Facts) (hFfnSRefIdeal : Cert.FfnSRefIdeal.Facts) (hQkvS : Cert.QkvS.Facts) (hQkvSIdeal : Cert.QkvSIdeal.Facts) (hQkvSRefIdeal : Cert.QkvSRefIdeal.Facts) (hConvS : Cert.ConvS.Facts) (hConvSIdeal : Cert.ConvSIdeal.Facts) (hConvSRefIdeal : Cert.ConvSRefIdeal.Facts) (hPre_finite_attn : Cert.Pre_finite_attn.Facts) (hPre_finite_qkv : Cert.Pre_finite_qkv.Facts) (hPre_finite_qkv_sample : Cert.Pre_finite_qkv_sample.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvRefIdeal (hQkvRefIdeal := hQkvRefIdeal)
    ∧ quiescent_QkvRefIdeal_pre_finite_qkv (hQkvRefIdeal := hQkvRefIdeal) (hPre_finite_qkv := hPre_finite_qkv)
    ∧ quiescent_Conv (hConv := hConv)
    ∧ quiescent_ConvIdeal (hConvIdeal := hConvIdeal)
    ∧ quiescent_ConvRefIdeal (hConvRefIdeal := hConvRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_QkvS (hQkvS := hQkvS)
    ∧ quiescent_QkvSIdeal (hQkvSIdeal := hQkvSIdeal)
    ∧ quiescent_QkvSIdeal_pre_finite_qkv_sample (hQkvSIdeal := hQkvSIdeal) (hPre_finite_qkv_sample := hPre_finite_qkv_sample)
    ∧ quiescent_QkvSRefIdeal (hQkvSRefIdeal := hQkvSRefIdeal)
    ∧ quiescent_QkvSRefIdeal_pre_finite_qkv_sample (hQkvSRefIdeal := hQkvSRefIdeal) (hPre_finite_qkv_sample := hPre_finite_qkv_sample)
    ∧ quiescent_ConvS (hConvS := hConvS)
    ∧ quiescent_ConvSIdeal (hConvSIdeal := hConvSIdeal)
    ∧ quiescent_ConvSRefIdeal (hConvSRefIdeal := hConvSRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Qkv_QkvIdeal
    ∧ algebraic_QkvIdeal_QkvRefIdeal_pre_finite_qkv (hQkvIdeal := hQkvIdeal) (hQkvRefIdeal := hQkvRefIdeal) (hPre_finite_qkv := hPre_finite_qkv)
    ∧ preserves_Conv_ConvIdeal
    ∧ algebraic_ConvIdeal_ConvRefIdeal (hConvIdeal := hConvIdeal) (hConvRefIdeal := hConvRefIdeal)
    ∧ preserves_FfnS_FfnSIdeal
    ∧ algebraic_FfnSIdeal_FfnSRefIdeal (hFfnSIdeal := hFfnSIdeal) (hFfnSRefIdeal := hFfnSRefIdeal)
    ∧ preserves_QkvS_QkvSIdeal
    ∧ algebraic_QkvSIdeal_QkvSRefIdeal_pre_finite_qkv_sample (hQkvSIdeal := hQkvSIdeal) (hQkvSRefIdeal := hQkvSRefIdeal) (hPre_finite_qkv_sample := hPre_finite_qkv_sample)
    ∧ preserves_ConvS_ConvSIdeal
    ∧ algebraic_ConvSIdeal_ConvSRefIdeal (hConvSIdeal := hConvSIdeal) (hConvSRefIdeal := hConvSRefIdeal)
-- ==== Pre_finite_attn.lean ====
abbrev S32768x1024 : Shape := ⟨2, ![32768, 1024]⟩
abbrev S32768x256 : Shape := ⟨2, ![32768, 256]⟩
abbrev S1x16 : Shape := ⟨2, ![1, 16]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S32768x1024 .bf16) (main_arg1 : FVec F S32768x256 .f32) (main_arg2 : FVec F S32768x256 .f32) (main_arg3 : FVec F S1x16 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x256 .f32 := Host.absf main_arg1
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  let main_c_1 : IVec S_ 1 := constantI S_ 1 1#1
  let main_v8 : IVec S_ 1 := (fun x v => Host.reduce IntOp.andi x v reducesTo_S32768x256_S_d0_1 h_S_) main_v7 main_c_1
  let main_v9 : IVec S_ 1 := andi main_v4 main_v8
  let main_v10 : FVec F S1x16 .f32 := Host.absf main_arg3
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  let main_c_3 : IVec S_ 1 := constantI S_ 1 1#1
  let main_v13 : IVec S_ 1 := (fun x v => Host.reduce IntOp.andi x v reducesTo_S1x16_S_d0_1 h_S_) main_v12 main_c_3
  let main_v14 : IVec S_ 1 := andi main_v9 main_v13
  main_v14
-- ==== Pre_finite_qkv.lean ====
abbrev S32768x8832 : Shape := ⟨2, ![32768, 8832]⟩
abbrev S1x64 : Shape := ⟨2, ![1, 64]⟩
abbrev S_ : Shape := ⟨0, ![]⟩

class Facts : Prop where
  bcast_S_S32768x8832 : S_.BroadcastsInDim S32768x8832 (![] : Fin 0 → Fin S32768x8832.rank)
  reducesTo_S32768x8832_S_d0_1 : S32768x8832.ReducesTo [0, 1] S_
  h_S_ : 0 < S_.numel

variable [Facts]

def fn {F : FTy → Type} [FloatOps F] (main_arg0 : FVec F S32768x8832 .f32) (main_arg1 : FVec F S1x64 .f32) (main_arg2 : FVec F S1x64 .f32) : IVec S_ 1 :=
  let main_v0 : FVec F S32768x8832 .f32 := Host.absf main_arg0
  let main_cst : FVec F S_ .f32 := constant S_ .f32 0x7F800000#32
  let main_v1 : FVec F S32768x8832 .f32 := broadcastInDim S32768x8832 ![] bcast_S_S32768x8832 main_cst
  let main_v2 : IVec S32768x8832 1 := cmpf .olt main_v0 main_v1
  let main_c : IVec S_ 1 := constantI S_ 1 1#1
  let main_v3 : IVec S_ 1 := (fun x v => Host.reduce IntOp.andi x v reducesTo_S32768x8832_S_d0_1 h_S_) main_v2 main_c
  main_v3
-- ==== Pre_finite_qkv_sample.lean ====
abbrev S1024x8832 : Shape := ⟨2, ![1024, 8832]⟩
abbrev S1x64 : Shape := ⟨2, ![1, 64]⟩
abbrev S_ : Shape := ⟨0, ![]⟩

class Facts : Prop where
  bcast_S_S1024x8832 : S_.BroadcastsInDim S1024x8832 (![] : Fin 0 → Fin S1024x8832.rank)
  reducesTo_S1024x8832_S_d0_1 : S1024x8832.ReducesTo [0, 1] S_
  h_S_ : 0 < S_.numel

variable [Facts]

def fn {F : FTy → Type} [FloatOps F] (main_arg0 : FVec F S1024x8832 .f32) (main_arg1 : FVec F S1x64 .f32) (main_arg2 : FVec F S1x64 .f32) : IVec S_ 1 :=
  let main_v0 : FVec F S1024x8832 .f32 := Host.absf main_arg0
  let main_cst : FVec F S_ .f32 := constant S_ .f32 0x7F800000#32
  let main_v1 : FVec F S1024x8832 .f32 := broadcastInDim S1024x8832 ![] bcast_S_S1024x8832 main_cst
  let main_v2 : IVec S1024x8832 1 := cmpf .olt main_v0 main_v1
  let main_c : IVec S_ 1 := constantI S_ 1 1#1
  let main_v3 : IVec S_ 1 := (fun x v => Host.reduce IntOp.andi x v reducesTo_S1024x8832_S_d0_1 h_S_) main_v2 main_c
  main_v3
-- ==== Attn.lean ====
abbrev S32768x1024 : Shape := ⟨2, ![32768, 1024]⟩
abbrev S32768x256 : Shape := ⟨2, ![32768, 256]⟩
abbrev S1x16 : Shape := ⟨2, ![1, 16]⟩
abbrev S256x256 : Shape := ⟨2, ![256, 256]⟩
abbrev S16 : Shape := ⟨1, ![16]⟩
abbrev S8x4096x16x64 : Shape := ⟨4, ![8, 4096, 16, 64]⟩
abbrev S8x16x4096x64 : Shape := ⟨4, ![8, 16, 4096, 64]⟩
abbrev S8x16x256x4x64 : Shape := ⟨5, ![8, 16, 256, 4, 64]⟩
abbrev S8x4x16x64x256 : Shape := ⟨5, ![8, 4, 16, 64, 256]⟩
abbrev S8x4x16x256x64 : Shape := ⟨5, ![8, 4, 16, 256, 64]⟩
abbrev S8x4096x1024 : Shape := ⟨3, ![8, 4096, 1024]⟩
abbrev S1x4x256x64 : Shape := ⟨4, ![1, 4, 256, 64]⟩
abbrev S1x1x16x64x256 : Shape := ⟨5, ![1, 1, 16, 64, 256]⟩
abbrev S1x1x16x256x64 : Shape := ⟨5, ![1, 1, 16, 256, 64]⟩
abbrev S1x256x256 : Shape := ⟨3, ![1, 256, 256]⟩
abbrev S1x1x256x64 : Shape := ⟨4, ![1, 1, 256, 64]⟩
abbrev S256x64 : Shape := ⟨2, ![256, 64]⟩
abbrev S1 : Shape := ⟨1, ![1]⟩
abbrev S256x1 : Shape := ⟨2, ![256, 1]⟩
abbrev S1x1x1x64x256 : Shape := ⟨5, ![1, 1, 1, 64, 256]⟩
abbrev S64x256 : Shape := ⟨2, ![64, 256]⟩
abbrev S1x1x1x256x64 : Shape := ⟨5, ![1, 1, 1, 256, 64]⟩
abbrev S256 : Shape := ⟨1, ![256]⟩

abbrev nBuf : Space → Nat
  | .hbm => 15
  | .vmem => 9
  | .smem => 1
  | _ => 0

abbrev bufTy : (tb : Table) → Fin (tcTables nBuf tb) → BufTy
  | .hbm, ⟨0, _⟩ => ⟨S32768x1024, .bf16⟩
  | .hbm, ⟨1, _⟩ => ⟨S32768x256, .f32⟩
  | .hbm, ⟨2, _⟩ => ⟨S32768x256, .f32⟩
  | .hbm, ⟨3, _⟩ => ⟨S1x16, .f32⟩
  | .hbm, ⟨4, _⟩ => ⟨S256x256, .bf16⟩
  | .hbm, ⟨5, _⟩ => ⟨S16, .f32⟩
  | .hbm, ⟨6, _⟩ => ⟨S8x4096x16x64, .bf16⟩
  | .hbm, ⟨7, _⟩ => ⟨S8x16x4096x64, .bf16⟩
  | .hbm, ⟨8, _⟩ => ⟨S32768x256, .bf16⟩
  | .hbm, ⟨9, _⟩ => ⟨S8x16x256x4x64, .bf16⟩
  | .hbm, ⟨10, _⟩ => ⟨S32768x256, .bf16⟩
  | .hbm, ⟨11, _⟩ => ⟨S8x16x256x4x64, .bf16⟩
  | .hbm, ⟨12, _⟩ => ⟨S8x4x16x64x256, .bf16⟩
  | .hbm, ⟨13, _⟩ => ⟨S8x4x16x256x64, .bf16⟩
  | .hbm, ⟨14, _⟩ => ⟨S8x4096x1024, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x1x16x64x256, .bf16⟩
  | .local _ .vmem, ⟨3, _⟩ => ⟨S1x1x16x64x256, .bf16⟩
  | .local _ .vmem, ⟨4, _⟩ => ⟨S1x1x16x256x64, .bf16⟩
  | .local _ .vmem, ⟨5, _⟩ => ⟨S1x1x16x256x64, .bf16⟩
  | .local _ .vmem, ⟨6, _⟩ => ⟨S256x256, .bf16⟩
  | .local _ .vmem, ⟨7, _⟩ => ⟨S1x256x256, .bf16⟩
  | .local _ .vmem, ⟨8, _⟩ => ⟨S1x256x256, .bf16⟩
  | .local _ .smem, ⟨0, _⟩ => ⟨S16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 16], ![false, false, false]⟩

def k0_off1 (i : grid0.Coords) (c0_i32 : BitVec 32) : Fin 1 → Nat :=
  let arg1 : BitVec 32 := BitVec.ofNat 32 (i 1).val
  let c4_i32 : BitVec 32 := 4#32
  let v6 : BitVec 32 := Scalar.muli arg1 c4_i32
  let v7 : BitVec 32 := Scalar.addi v6 c0_i32
  let v8 : Index := Scalar.indexCast v7
  ![v8.toNat]
def k0_off2 (i : grid0.Coords) : Fin 5 → Nat :=
  let c0_6 : Index := 0#32
  let c0_7 : Index := 0#32
  let arg2 : BitVec 32 := BitVec.ofNat 32 (i 2).val
  let v12 : Index := Scalar.indexCast arg2
  let c0_8 : Index := 0#32
  let c0_9 : Index := 0#32
  ![0, 0, v12.toNat, 0, 0]
def k0_off3 (i : grid0.Coords) : Fin 5 → Nat :=
  let c0_11 : Index := 0#32
  let c0_12 : Index := 0#32
  let arg2 : BitVec 32 := BitVec.ofNat 32 (i 2).val
  let v18 : Index := Scalar.indexCast arg2
  let c0_13 : Index := 0#32
  let c0_14 : Index := 0#32
  ![0, 0, v18.toNat, 0, 0]
@[reducible] def k0_t1_loop (i : grid0.Coords) : Scf.Loop 32 :=
  let c0_i32_25 : BitVec 32 := 0#32
  let arg2 : BitVec 32 := BitVec.ofNat 32 (i 2).val
  let v55 : BitVec 32 := Scalar.subi arg2 c0_i32_25
  let c1_i32 : BitVec 32 := 1#32
  let v57 : BitVec 32 := Scalar.divsi v55 c1_i32
  let v58 : BitVec 32 := Scalar.muli v57 c1_i32
  let v59 : BitVec 32 := Scalar.addi c0_i32_25 v58
  let c1_i32_26 : BitVec 32 := 1#32
  ⟨c0_i32_25, v59, c1_i32_26⟩
def k0_off4 (i : grid0.Coords) (k0_t1 : Fin (k0_t1_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_25 : BitVec 32 := 0#32
  let c1_i32_26 : BitVec 32 := 1#32
  let arg9 : BitVec 32 := Scf.iv c0_i32_25 c1_i32_26 k0_t1
  let v242 : BitVec 32 := Scalar.subi v241 arg9
  let v243 : Index := Scalar.indexCast v242
  let c0_122 : Index := 0#32
  let c0_123 : Index := 0#32
  ![0, 0, v243.toNat, 0, 0]
def k0_off5 (i : grid0.Coords) (k0_t1 : Fin (k0_t1_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_25 : BitVec 32 := 0#32
  let c1_i32_26 : BitVec 32 := 1#32
  let arg9 : BitVec 32 := Scf.iv c0_i32_25 c1_i32_26 k0_t1
  let v242 : BitVec 32 := Scalar.subi v241 arg9
  let v249 : Index := Scalar.indexCast v242
  let c0_127 : Index := 0#32
  let c0_128 : Index := 0#32
  ![0, 0, v249.toNat, 0, 0]
@[reducible] def k0_t2_loop (i : grid0.Coords) : Scf.Loop 32 :=
  let c0_i32_25 : BitVec 32 := 0#32
  let arg2 : BitVec 32 := BitVec.ofNat 32 (i 2).val
  let v55 : BitVec 32 := Scalar.subi arg2 c0_i32_25
  let c1_i32 : BitVec 32 := 1#32
  let v57 : BitVec 32 := Scalar.divsi v55 c1_i32
  let v58 : BitVec 32 := Scalar.muli v57 c1_i32
  let v59 : BitVec 32 := Scalar.addi c0_i32_25 v58
  let v56 : BitVec 32 := Scalar.addi c0_i32_25 v55
  let c1_i32_27 : BitVec 32 := 1#32
  ⟨v59, v56, c1_i32_27⟩
def k0_off6 (i : grid0.Coords) (k0_t2 : Fin (k0_t2_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_25 : BitVec 32 := 0#32
  let v55 : BitVec 32 := Scalar.subi arg2 c0_i32_25
  let c1_i32 : BitVec 32 := 1#32
  let v57 : BitVec 32 := Scalar.divsi v55 c1_i32
  let v58 : BitVec 32 := Scalar.muli v57 c1_i32
  let v59 : BitVec 32 := Scalar.addi c0_i32_25 v58
  let c1_i32_27 : BitVec 32 := 1#32
  let arg9 : BitVec 32 := Scf.iv v59 c1_i32_27 k0_t2
  let v242 : BitVec 32 := Scalar.subi v241 arg9
  let v243 : Index := Scalar.indexCast v242
  let c0_122 : Index := 0#32
  let c0_123 : Index := 0#32
  ![0, 0, v243.toNat, 0, 0]
def k0_off7 (i : grid0.Coords) (k0_t2 : Fin (k0_t2_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_25 : BitVec 32 := 0#32
  let v55 : BitVec 32 := Scalar.subi arg2 c0_i32_25
  let c1_i32 : BitVec 32 := 1#32
  let v57 : BitVec 32 := Scalar.divsi v55 c1_i32
  let v58 : BitVec 32 := Scalar.muli v57 c1_i32
  let v59 : BitVec 32 := Scalar.addi c0_i32_25 v58
  let c1_i32_27 : BitVec 32 := 1#32
  let arg9 : BitVec 32 := Scf.iv v59 c1_i32_27 k0_t2
  let v242 : BitVec 32 := Scalar.subi v241 arg9
  let v249 : Index := Scalar.indexCast v242
  let c0_127 : Index := 0#32
  let c0_128 : Index := 0#32
  ![0, 0, v249.toNat, 0, 0]
@[reducible] def k0_t3_loop (i : grid0.Coords) : Scf.Loop 32 :=
  let c0_i32_54 : BitVec 32 := 0#32
  let arg2 : BitVec 32 := BitVec.ofNat 32 (i 2).val
  let v113 : BitVec 32 := Scalar.subi arg2 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_56 : BitVec 32 := 1#32
  ⟨c0_i32_54, v117, c1_i32_56⟩
def k0_off8 (i : grid0.Coords) (k0_t3 : Fin (k0_t3_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_54 : BitVec 32 := 0#32
  let c1_i32_56 : BitVec 32 := 1#32
  let arg9 : BitVec 32 := Scf.iv c0_i32_54 c1_i32_56 k0_t3
  let v242 : BitVec 32 := Scalar.subi v241 arg9
  let v243 : Index := Scalar.indexCast v242
  let c0_122 : Index := 0#32
  let c0_123 : Index := 0#32
  ![0, 0, v243.toNat, 0, 0]
def k0_off9 (i : grid0.Coords) (k0_t3 : Fin (k0_t3_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_54 : BitVec 32 := 0#32
  let c1_i32_56 : BitVec 32 := 1#32
  let arg9 : BitVec 32 := Scf.iv c0_i32_54 c1_i32_56 k0_t3
  let v242 : BitVec 32 := Scalar.subi v241 arg9
  let v249 : Index := Scalar.indexCast v242
  let c0_127 : Index := 0#32
  let c0_128 : Index := 0#32
  ![0, 0, v249.toNat, 0, 0]
@[reducible] def k0_t4_loop (i : grid0.Coords) : Scf.Loop 32 :=
  let c0_i32_54 : BitVec 32 := 0#32
  let arg2 : BitVec 32 := BitVec.ofNat 32 (i 2).val
  let v113 : BitVec 32 := Scalar.subi arg2 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let v114 : BitVec 32 := Scalar.addi c0_i32_54 v113
  let c1_i32_57 : BitVec 32 := 1#32
  ⟨v117, v114, c1_i32_57⟩
def k0_off10 (i : grid0.Coords) (k0_t4 : Fin (k0_t4_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_54 : BitVec 32 := 0#32
  let v113 : BitVec 32 := Scalar.subi arg2 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg9 : BitVec 32 := Scf.iv v117 c1_i32_57 k0_t4
  let v242 : BitVec 32 := Scalar.subi v241 arg9
  let v243 : Index := Scalar.indexCast v242
  let c0_122 : Index := 0#32
  let c0_123 : Index := 0#32
  ![0, 0, v243.toNat, 0, 0]
def k0_off11 (i : grid0.Coords) (k0_t4 : Fin (k0_t4_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_54 : BitVec 32 := 0#32
  let v113 : BitVec 32 := Scalar.subi arg2 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg9 : BitVec 32 := Scf.iv v117 c1_i32_57 k0_t4
  let v242 : BitVec 32 := Scalar.subi v241 arg9
  let v249 : Index := Scalar.indexCast v242
  let c0_127 : Index := 0#32
  let c0_128 : Index := 0#32
  ![0, 0, v249.toNat, 0, 0]
@[reducible] def k0_t5_loop (i : grid0.Coords) : Scf.Loop 32 :=
  let c0_i32_83 : BitVec 32 := 0#32
  let arg2 : BitVec 32 := BitVec.ofNat 32 (i 2).val
  let v171 : BitVec 32 := Scalar.subi arg2 c0_i32_83
  let c1_i32_84 : BitVec 32 := 1#32
  let v173 : BitVec 32 := Scalar.divsi v171 c1_i32_84
  let v174 : BitVec 32 := Scalar.muli v173 c1_i32_84
  let v175 : BitVec 32 := Scalar.addi c0_i32_83 v174
  let c1_i32_85 : BitVec 32 := 1#32
  ⟨c0_i32_83, v175, c1_i32_85⟩
def k0_off12 (i : grid0.Coords) (k0_t5 : Fin (k0_t5_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_83 : BitVec 32 := 0#32
  let c1_i32_85 : BitVec 32 := 1#32
  let arg9 : BitVec 32 := Scf.iv c0_i32_83 c1_i32_85 k0_t5
  let v242 : BitVec 32 := Scalar.subi v241 arg9
  let v243 : Index := Scalar.indexCast v242
  let c0_122 : Index := 0#32
  let c0_123 : Index := 0#32
  ![0, 0, v243.toNat, 0, 0]
def k0_off13 (i : grid0.Coords) (k0_t5 : Fin (k0_t5_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_83 : BitVec 32 := 0#32
  let c1_i32_85 : BitVec 32 := 1#32
  let arg9 : BitVec 32 := Scf.iv c0_i32_83 c1_i32_85 k0_t5
  let v242 : BitVec 32 := Scalar.subi v241 arg9
  let v249 : Index := Scalar.indexCast v242
  let c0_127 : Index := 0#32
  let c0_128 : Index := 0#32
  ![0, 0, v249.toNat, 0, 0]
@[reducible] def k0_t6_loop (i : grid0.Coords) : Scf.Loop 32 :=
  let c0_i32_83 : BitVec 32 := 0#32
  let arg2 : BitVec 32 := BitVec.ofNat 32 (i 2).val
  let v171 : BitVec 32 := Scalar.subi arg2 c0_i32_83
  let c1_i32_84 : BitVec 32 := 1#32
  let v173 : BitVec 32 := Scalar.divsi v171 c1_i32_84
  let v174 : BitVec 32 := Scalar.muli v173 c1_i32_84
  let v175 : BitVec 32 := Scalar.addi c0_i32_83 v174
  let v172 : BitVec 32 := Scalar.addi c0_i32_83 v171
  let c1_i32_86 : BitVec 32 := 1#32
  ⟨v175, v172, c1_i32_86⟩
def k0_off14 (i : grid0.Coords) (k0_t6 : Fin (k0_t6_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_83 : BitVec 32 := 0#32
  let v171 : BitVec 32 := Scalar.subi arg2 c0_i32_83
  let c1_i32_84 : BitVec 32 := 1#32
  let v173 : BitVec 32 := Scalar.divsi v171 c1_i32_84
  let v174 : BitVec 32 := Scalar.muli v173 c1_i32_84
  let v175 : BitVec 32 := Scalar.addi c0_i32_83 v174
  let c1_i32_86 : BitVec 32 := 1#32
  let arg9 : BitVec 32 := Scf.iv v175 c1_i32_86 k0_t6
  let v242 : BitVec 32 := Scalar.subi v241 arg9
  let v243 : Index := Scalar.indexCast v242
  let c0_122 : Index := 0#32
  let c0_123 : Index := 0#32
  ![0, 0, v243.toNat, 0, 0]
def k0_off15 (i : grid0.Coords) (k0_t6 : Fin (k0_t6_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_83 : BitVec 32 := 0#32
  let v171 : BitVec 32 := Scalar.subi arg2 c0_i32_83
  let c1_i32_84 : BitVec 32 := 1#32
  let v173 : BitVec 32 := Scalar.divsi v171 c1_i32_84
  let v174 : BitVec 32 := Scalar.muli v173 c1_i32_84
  let v175 : BitVec 32 := Scalar.addi c0_i32_83 v174
  let c1_i32_86 : BitVec 32 := 1#32
  let arg9 : BitVec 32 := Scf.iv v175 c1_i32_86 k0_t6
  let v242 : BitVec 32 := Scalar.subi v241 arg9
  let v249 : Index := Scalar.indexCast v242
  let c0_127 : Index := 0#32
  let c0_128 : Index := 0#32
  ![0, 0, v249.toNat, 0, 0]
@[reducible] def k0_t7_loop (i : grid0.Coords) : Scf.Loop 32 :=
  let c0_i32_112 : BitVec 32 := 0#32
  let arg2 : BitVec 32 := BitVec.ofNat 32 (i 2).val
  let v229 : BitVec 32 := Scalar.subi arg2 c0_i32_112
  let c1_i32_113 : BitVec 32 := 1#32
  let v231 : BitVec 32 := Scalar.divsi v229 c1_i32_113
  let v232 : BitVec 32 := Scalar.muli v231 c1_i32_113
  let v233 : BitVec 32 := Scalar.addi c0_i32_112 v232
  let c1_i32_114 : BitVec 32 := 1#32
  ⟨c0_i32_112, v233, c1_i32_114⟩
def k0_off16 (i : grid0.Coords) (k0_t7 : Fin (k0_t7_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_112 : BitVec 32 := 0#32
  let c1_i32_114 : BitVec 32 := 1#32
  let arg9 : BitVec 32 := Scf.iv c0_i32_112 c1_i32_114 k0_t7
  let v242 : BitVec 32 := Scalar.subi v241 arg9
  let v243 : Index := Scalar.indexCast v242
  let c0_122 : Index := 0#32
  let c0_123 : Index := 0#32
  ![0, 0, v243.toNat, 0, 0]
def k0_off17 (i : grid0.Coords) (k0_t7 : Fin (k0_t7_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_112 : BitVec 32 := 0#32
  let c1_i32_114 : BitVec 32 := 1#32
  let arg9 : BitVec 32 := Scf.iv c0_i32_112 c1_i32_114 k0_t7
  let v242 : BitVec 32 := Scalar.subi v241 arg9
  let v249 : Index := Scalar.indexCast v242
  let c0_127 : Index := 0#32
  let c0_128 : Index := 0#32
  ![0, 0, v249.toNat, 0, 0]
@[reducible] def k0_t8_loop (i : grid0.Coords) : Scf.Loop 32 :=
  let c0_i32_112 : BitVec 32 := 0#32
  let arg2 : BitVec 32 := BitVec.ofNat 32 (i 2).val
  let v229 : BitVec 32 := Scalar.subi arg2 c0_i32_112
  let c1_i32_113 : BitVec 32 := 1#32
  let v231 : BitVec 32 := Scalar.divsi v229 c1_i32_113
  let v232 : BitVec 32 := Scalar.muli v231 c1_i32_113
  let v233 : BitVec 32 := Scalar.addi c0_i32_112 v232
  let v230 : BitVec 32 := Scalar.addi c0_i32_112 v229
  let c1_i32_115 : BitVec 32 := 1#32
  ⟨v233, v230, c1_i32_115⟩
def k0_off18 (i : grid0.Coords) (k0_t8 : Fin (k0_t8_loop i).trips) : Fin 5 → Nat :=
  let c0_120 : Index := 0#32
  let c0_121 : Index := 0#32
  let arg2 : BitVec 32 := BitVec.ofNat 32 (i 2).val
  let c1_i32_119 : BitVec 32 := 1#32
  let v241 : BitVec 32 := Scalar.subi arg2 c1_i32_119
  let c0_i32_112 : BitVec 32 := 0#32
  let v229 : BitVec 32 := Scalar.subi arg2 c0_i32_112
  let c1_i32_113 : BitVec 32 := 1#32
  let v231 : BitVec 32 := Scalar.divsi v229 c1_i32_113
  let v232 : BitVec 32 := Scalar.muli v231 c1_i32_113
  let v233 : BitVec 32 := Scalar.addi c0_i32_112 v232
  let c1_i32_115 : BitVec 32 := 1#32
  let arg9 : BitVec 32 := Scf.iv v233 c1_i32_115 k0_t8
  let v242 : BitVec 32 := Scalar.subi v241 arg9
  let v243 : Index := Scalar.indexCast v242
  let c0_122 : Index := 0#32
  let c0_123 : Index := 0#32
  ![0, 0, v243.toNat, 0, 0]
def k0_off19 (i : grid0.Coords) (k0_t8 : Fin (k0_t8_loop i).trips) : Fin 5 → Nat :=
  let c0_125 : Index := 0#32
  let c0_126 : Index := 0#32
  let arg2 : BitVec 32 := BitVec.ofNat 32 (i 2).val
  let c1_i32_119 : BitVec 32 := 1#32
  let v241 : BitVec 32 := Scalar.subi arg2 c1_i32_119
  let c0_i32_112 : BitVec 32 := 0#32
  let v229 : BitVec 32 := Scalar.subi arg2 c0_i32_112
  let c1_i32_113 : BitVec 32 := 1#32
  let v231 : BitVec 32 := Scalar.divsi v229 c1_i32_113
  let v232 : BitVec 32 := Scalar.muli v231 c1_i32_113
  let v233 : BitVec 32 := Scalar.addi c0_i32_112 v232
  let c1_i32_115 : BitVec 32 := 1#32
  let arg9 : BitVec 32 := Scf.iv v233 c1_i32_115 k0_t8
  let v242 : BitVec 32 := Scalar.subi v241 arg9
  let v249 : Index := Scalar.indexCast v242
  let c0_127 : Index := 0#32
  let c0_128 : Index := 0#32
  ![0, 0, v249.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S32768x1024 : Shape := ⟨2, ![32768, 1024]⟩
abbrev S32768x256 : Shape := ⟨2, ![32768, 256]⟩
abbrev S1x16 : Shape := ⟨2, ![1, 16]⟩
abbrev S8x4096x4x4x64 : Shape := ⟨5, ![8, 4096, 4, 4, 64]⟩
abbrev S8x4096x4x64 : Shape := ⟨4, ![8, 4096, 4, 64]⟩
abbrev S16 : Shape := ⟨1, ![16]⟩
abbrev S4x4 : Shape := ⟨2, ![4, 4]⟩
abbrev S8x4x4096x4096x4 : Shape := ⟨5, ![8, 4, 4096, 4096, 4]⟩
abbrev S8x4x4x4096x4096 : Shape := ⟨5, ![8, 4, 4, 4096, 4096]⟩
abbrev S1x4x4x1x1 : Shape := ⟨5, ![1, 4, 4, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4x64x4x4096 : Shape := ⟨5, ![8, 4, 64, 4, 4096]⟩
abbrev S8x4096x1024 : Shape := ⟨3, ![8, 4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .f32⟩
  | .hbm, ⟨2, _⟩ => ⟨S32768x256, .f32⟩
  | .hbm, ⟨3, _⟩ => ⟨S1x16, .f32⟩
  | .hbm, ⟨4, _⟩ => ⟨S32768x1024, .f32⟩
  | .hbm, ⟨5, _⟩ => ⟨S8x4096x4x4x64, .f32⟩
  | .hbm, ⟨6, _⟩ => ⟨S8x4096x4x64, .f32⟩
  | .hbm, ⟨7, _⟩ => ⟨S8x4096x4x64, .f32⟩
  | .hbm, ⟨8, _⟩ => ⟨S16, .f32⟩
  | .hbm, ⟨9, _⟩ => ⟨S4x4, .f32⟩
  | .hbm, ⟨10, _⟩ => ⟨S8x4x4096x4096x4, .f32⟩
  | .hbm, ⟨11, _⟩ => ⟨S8x4x4x4096x4096, .f32⟩
  | .hbm, ⟨12, _⟩ => ⟨S1x4x4x1x1, .f32⟩
  | .hbm, ⟨13, _⟩ => ⟨S8x4x4x4096x4096, .f32⟩
  | .hbm, ⟨14, _⟩ => ⟨S8x4x4x4096x4096, .f32⟩
  | .hbm, ⟨15, _⟩ => ⟨S4096, .i32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4x4x4096x4096, .f32⟩
  | .hbm, ⟨23, _⟩ => ⟨S_, .f32⟩
  | .hbm, ⟨24, _⟩ => ⟨S8x4x4x4096x4096, .f32⟩
  | .hbm, ⟨25, _⟩ => ⟨S8x4x4x4096x4096, .f32⟩
  | .hbm, ⟨26, _⟩ => ⟨S8x4x4x4096x4096, .f32⟩
  | .hbm, ⟨27, _⟩ => ⟨S8x4x4x4096x4096, .f32⟩
  | .hbm, ⟨28, _⟩ => ⟨S8x4x4x4096x4096, .i1⟩
  | .hbm, ⟨29, _⟩ => ⟨S8x4x4x4096x4096, .f32⟩
  | .hbm, ⟨30, _⟩ => ⟨S8x4x4x4096x4096, .f32⟩
  | .hbm, ⟨31, _⟩ => ⟨S8x4x4x4096x4096, .f32⟩
  | .hbm, ⟨32, _⟩ => ⟨S8x4x4x4096x4096, .f32⟩
  | .hbm, ⟨33, _⟩ => ⟨S8x4x4x4096x4096, .f32⟩
  | .hbm, ⟨34, _⟩ => ⟨S8x4x4x4096x4096, .f32⟩
  | .hbm, ⟨35, _⟩ => ⟨S8x4x4x4096x4096, .f32⟩
  | .hbm, ⟨36, _⟩ => ⟨S8x4x4x4096x4096, .f32⟩
  | .hbm, ⟨37, _⟩ => ⟨S8x4x4x4096x4096, .f32⟩
  | .hbm, ⟨38, _⟩ => ⟨S8x4x4x4096x4096, .f32⟩
  | .hbm, ⟨39, _⟩ => ⟨S8x4x4x4096x4096, .f32⟩
  | .hbm, ⟨40, _⟩ => ⟨S_, .f32⟩
  | .hbm, ⟨41, _⟩ => ⟨S8x4x4x4096x4096, .f32⟩
  | .hbm, ⟨42, _⟩ => ⟨S8x4x4x4096x4096, .f32⟩
  | .hbm, ⟨43, _⟩ => ⟨S8x4x4x4096x4096, .f32⟩
  | .hbm, ⟨44, _⟩ => ⟨S8x4x4x4096x4096, .f32⟩
  | .hbm, ⟨45, _⟩ => ⟨S8x4x4x4096x4096, .i1⟩
  | .hbm, ⟨46, _⟩ => ⟨S8x4x4x4096x4096, .f32⟩
  | .hbm, ⟨47, _⟩ => ⟨S8x4x4x4096x4096, .f32⟩
  | .hbm, ⟨48, _⟩ => ⟨S8x4x4x4096x4096, .f32⟩
  | .hbm, ⟨49, _⟩ => ⟨S8x4x4x4096x4096, .f32⟩
  | .hbm, ⟨50, _⟩ => ⟨S8x4x4x4096x4096, .f32⟩
  | .hbm, ⟨51, _⟩ => ⟨S8x4x4x4096x4096, .f32⟩
  | .hbm, ⟨52, _⟩ => ⟨S8x4x4x4096x4096, .f32⟩
  | .hbm, ⟨53, _⟩ => ⟨S8x4x4x4096x4096, .f32⟩
  | .hbm, ⟨54, _⟩ => ⟨S8x4x4x4096x4096, .f32⟩
  | .hbm, ⟨55, _⟩ => ⟨S_, .f32⟩
  | .hbm, ⟨56, _⟩ => ⟨S_, .f32⟩
  | .hbm, ⟨57, _⟩ => ⟨S8x4x4x4096x4096, .i1⟩
  | .hbm, ⟨58, _⟩ => ⟨S8x4x4x4096x4096, .f32⟩
  | .hbm, ⟨59, _⟩ => ⟨S8x4x4x4096x4096, .f32⟩
  | .hbm, ⟨60, _⟩ => ⟨S_, .f32⟩
  | .hbm, ⟨61, _⟩ => ⟨S_, .f32⟩
  | .hbm, ⟨62, _⟩ => ⟨S8x4x4x4096x4096, .f32⟩
  | .hbm, ⟨63, _⟩ => ⟨S8x4x4x4096x4096, .f32⟩
  | .hbm, ⟨64, _⟩ => ⟨S8x4x4x4096x4096, .f32⟩
  | .hbm, ⟨65, _⟩ => ⟨S8x4x4x4096x4096, .f32⟩
  | .hbm, ⟨66, _⟩ => ⟨S_, .f32⟩
  | .hbm, ⟨67, _⟩ => ⟨S_, .f32⟩
  | .hbm, ⟨68, _⟩ => ⟨S8x4x4x4096x4096, .i1⟩
  | .hbm, ⟨69, _⟩ => ⟨S8x4x4x4096x4096, .f32⟩
  | .hbm, ⟨70, _⟩ => ⟨S8x4x4x4096x4096, .f32⟩
  | .hbm, ⟨71, _⟩ => ⟨S8x4x64x4x4096, .f32⟩
  | .hbm, ⟨72, _⟩ => ⟨S8x4096x4x4x64, .f32⟩
  | .hbm, ⟨73, _⟩ => ⟨S8x4096x1024, .f32⟩
  | .hbm, ⟨74, _⟩ => ⟨S8x4096x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v20 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v21 : Ref sig .tc := ⟨.hbm, 59, rfl⟩
abbrev main_call3_cst : Ref sig .tc := ⟨.hbm, 60, rfl⟩
abbrev main_call3_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 14
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnIdeal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 14
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S1024x2816, .f32⟩
  | .hbm, ⟨34, _⟩ => ⟨S32768x2816, .f32⟩
  | .hbm, ⟨35, _⟩ => ⟨S32768x2816, .f32⟩
  | .hbm, ⟨36, _⟩ => ⟨S2816x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S32768x8832 : Shape := ⟨2, ![32768, 8832]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 14
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x8832, .f32⟩
  | .hbm, ⟨3, _⟩ => ⟨S32768x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S2048x1024, .f32⟩
  | .hbm, ⟨10, _⟩ => ⟨S2048x1024, .bf16⟩
  | .hbm, ⟨11, _⟩ => ⟨S1024x1024, .f32⟩
  | .hbm, ⟨12, _⟩ => ⟨S1024x1024, .bf16⟩
  | .hbm, ⟨13, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x2048 : Shape := ⟨2, ![32768, 2048]⟩
abbrev S32768x8832 : Shape := ⟨2, ![32768, 8832]⟩
abbrev S1x1024x1024 : Shape := ⟨3, ![1, 1024, 1024]⟩
abbrev S1x2048x1024 : Shape := ⟨3, ![1, 2048, 1024]⟩
abbrev S_ : Shape := ⟨0, ![]⟩
abbrev S1024x1024 : Shape := ⟨2, ![1024, 1024]⟩
abbrev S2048x1024 : Shape := ⟨2, ![2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x8832, .f32⟩
  | .hbm, ⟨3, _⟩ => ⟨S32768x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S32768x1024, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S2048x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1024x1024, .f32⟩
  | .hbm, ⟨35, _⟩ => ⟨S32768x1024, .f32⟩
  | .hbm, ⟨36, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S1x1024x8736 : Shape := ⟨3, ![1, 1024, 8736]⟩
abbrev S1024x8736 : Shape := ⟨2, ![1024, 8736]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x96 : Shape := ⟨2, ![1024, 96]⟩
abbrev S1024x8832 : Shape := ⟨2, ![1024, 8832]⟩
abbrev S1024 : Shape := ⟨1, ![1024]⟩
abbrev S32768x8832 : Shape := ⟨2, ![32768, 8832]⟩
abbrev S512x1024 : Shape := ⟨2, ![512, 1024]⟩
abbrev S1024x2944 : Shape := ⟨2, ![1024, 2944]⟩
abbrev S512x2944 : Shape := ⟨2, ![512, 2944]⟩
abbrev S512 : Shape := ⟨1, ![512]⟩
abbrev S512x1 : Shape := ⟨2, ![512, 1]⟩
abbrev S32768x256 : Shape := ⟨2, ![32768, 256]⟩
abbrev S32768x2048 : Shape := ⟨2, ![32768, 2048]⟩
abbrev S32768x3072 : Shape := ⟨2, ![32768, 3072]⟩
abbrev S32768x32 : Shape := ⟨2, ![32768, 32]⟩

abbrev nBuf : Space → Nat
  | .hbm => 27
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x8736, .f32⟩
  | .hbm, ⟨3, _⟩ => ⟨S1024x8736, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x2048, .f32⟩
  | .hbm, ⟨8, _⟩ => ⟨S1024x3072, .f32⟩
  | .hbm, ⟨9, _⟩ => ⟨S1024x32, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x96, .f32⟩
  | .hbm, ⟨14, _⟩ => ⟨S1024x8832, .f32⟩
  | .hbm, ⟨15, _⟩ => ⟨S1024x8832, .bf16⟩
  | .hbm, ⟨16, _⟩ => ⟨S1024, .f32⟩
  | .hbm, ⟨17, _⟩ => ⟨S1x1024, .f32⟩
  | .hbm, ⟨18, _⟩ => ⟨S32768x8832, .f32⟩
  | .hbm, ⟨19, _⟩ => ⟨S32768x1024, .f32⟩
  | .hbm, ⟨20, _⟩ => ⟨S32768x256, .f32⟩
  | .hbm, ⟨21, _⟩ => ⟨S32768x256, .f32⟩
  | .hbm, ⟨22, _⟩ => ⟨S32768x2048, .f32⟩
  | .hbm, ⟨23, _⟩ => ⟨S32768x3072, .f32⟩
  | .hbm, ⟨24, _⟩ => ⟨S32768x32, .f32⟩
  | .hbm, ⟨25, _⟩ => ⟨S32768x1024, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S1024x2944, .bf16⟩
  | .local _ .vmem, ⟨5, _⟩ => ⟨S512x2944, .f32⟩
  | .local _ .vmem, ⟨6, _⟩ => ⟨S512x2944, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S32768x1024 : Shape := ⟨2, ![32768, 1024]⟩
abbrev S1x1024 : Shape := ⟨2, ![1, 1024]⟩
abbrev S1x1024x8736 : Shape := ⟨3, ![1, 1024, 8736]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x8736 : Shape := ⟨2, ![1024, 8736]⟩
abbrev S32768x8736 : Shape := ⟨2, ![32768, 8736]⟩
abbrev S32768x256 : Shape := ⟨2, ![32768, 256]⟩
abbrev S32768x2048 : Shape := ⟨2, ![32768, 2048]⟩
abbrev S32768x3072 : Shape := ⟨2, ![32768, 3072]⟩
abbrev S32768x32 : Shape := ⟨2, ![32768, 32]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x8736, .f32⟩
  | .hbm, ⟨3, _⟩ => ⟨S1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x8736, .f32⟩
  | .hbm, ⟨21, _⟩ => ⟨S32768x8736, .f32⟩
  | .hbm, ⟨22, _⟩ => ⟨S32768x1024, .f32⟩
  | .hbm, ⟨23, _⟩ => ⟨S32768x256, .f32⟩
  | .hbm, ⟨24, _⟩ => ⟨S32768x256, .f32⟩
  | .hbm, ⟨25, _⟩ => ⟨S32768x2048, .f32⟩
  | .hbm, ⟨26, _⟩ => ⟨S32768x3072, .f32⟩
  | .hbm, ⟨27, _⟩ => ⟨S32768x32, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Qkv.lean ====
abbrev S32768x8832 : Shape := ⟨2, ![32768, 8832]⟩
abbrev S1x64 : Shape := ⟨2, ![1, 64]⟩
abbrev S256x256 : Shape := ⟨2, ![256, 256]⟩
abbrev S64 : Shape := ⟨1, ![64]⟩
abbrev S4x64 : Shape := ⟨2, ![4, 64]⟩
abbrev S256 : Shape := ⟨1, ![256]⟩
abbrev S1x256 : Shape := ⟨2, ![1, 256]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S32768x8832, .f32⟩
  | .hbm, ⟨1, _⟩ => ⟨S1x64, .f32⟩
  | .hbm, ⟨2, _⟩ => ⟨S1x64, .f32⟩
  | .hbm, ⟨3, _⟩ => ⟨S256x256, .bf16⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S32768x1024, .bf16⟩
  | .hbm, ⟨15, _⟩ => ⟨S32768x256, .f32⟩
  | .hbm, ⟨16, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S512x1024, .bf16⟩
  | .local _ .vmem, ⟨10, _⟩ => ⟨S512x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S32768x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_2 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvIdeal.lean ====
abbrev S32768x8832 : Shape := ⟨2, ![32768, 8832]⟩
abbrev S1x64 : Shape := ⟨2, ![1, 64]⟩
abbrev S256x256 : Shape := ⟨2, ![256, 256]⟩
abbrev S64 : Shape := ⟨1, ![64]⟩
abbrev S4x64 : Shape := ⟨2, ![4, 64]⟩
abbrev S256 : Shape := ⟨1, ![256]⟩
abbrev S1x256 : Shape := ⟨2, ![1, 256]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S32768x8832, .f32⟩
  | .hbm, ⟨1, _⟩ => ⟨S1x64, .f32⟩
  | .hbm, ⟨2, _⟩ => ⟨S1x64, .f32⟩
  | .hbm, ⟨3, _⟩ => ⟨S256x256, .bf16⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S32768x1024, .bf16⟩
  | .hbm, ⟨15, _⟩ => ⟨S32768x256, .f32⟩
  | .hbm, ⟨16, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S512x1024, .bf16⟩
  | .local _ .vmem, ⟨10, _⟩ => ⟨S512x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S32768x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_2 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvRefIdeal.lean ====
abbrev S32768x8832 : Shape := ⟨2, ![32768, 8832]⟩
abbrev S1x64 : Shape := ⟨2, ![1, 64]⟩
abbrev S32768x1024 : Shape := ⟨2, ![32768, 1024]⟩
abbrev S32768x256 : Shape := ⟨2, ![32768, 256]⟩
abbrev S32768x16x64 : Shape := ⟨3, ![32768, 16, 64]⟩
abbrev S64 : Shape := ⟨1, ![64]⟩
abbrev S_ : Shape := ⟨0, ![]⟩
abbrev S32768x16 : Shape := ⟨2, ![32768, 16]⟩
abbrev S32768x16x1 : Shape := ⟨3, ![32768, 16, 1]⟩
abbrev S1x1x64 : Shape := ⟨3, ![1, 1, 64]⟩
abbrev S32768x4x64 : Shape := ⟨3, ![32768, 4, 64]⟩
abbrev S32768x4 : Shape := ⟨2, ![32768, 4]⟩
abbrev S32768x4x1 : Shape := ⟨3, ![32768, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S32768x8832, .f32⟩
  | .hbm, ⟨1, _⟩ => ⟨S1x64, .f32⟩
  | .hbm, ⟨2, _⟩ => ⟨S1x64, .f32⟩
  | .hbm, ⟨3, _⟩ => ⟨S32768x1024, .f32⟩
  | .hbm, ⟨4, _⟩ => ⟨S32768x256, .f32⟩
  | .hbm, ⟨5, _⟩ => ⟨S32768x256, .f32⟩
  | .hbm, ⟨6, _⟩ => ⟨S32768x16x64, .f32⟩
  | .hbm, ⟨7, _⟩ => ⟨S64, .f32⟩
  | .hbm, ⟨8, _⟩ => ⟨S32768x16x64, .f32⟩
  | .hbm, ⟨9, _⟩ => ⟨S_, .f32⟩
  | .hbm, ⟨10, _⟩ => ⟨S32768x16, .f32⟩
  | .hbm, ⟨11, _⟩ => ⟨S32768x16x1, .f32⟩
  | .hbm, ⟨12, _⟩ => ⟨S_, .f32⟩
  | .hbm, ⟨13, _⟩ => ⟨S32768x16x1, .f32⟩
  | .hbm, ⟨14, _⟩ => ⟨S32768x16x1, .f32⟩
  | .hbm, ⟨15, _⟩ => ⟨S_, .f32⟩
  | .hbm, ⟨16, _⟩ => ⟨S32768x16x1, .f32⟩
  | .hbm, ⟨17, _⟩ => ⟨S32768x16x1, .f32⟩
  | .hbm, ⟨18, _⟩ => ⟨S32768x16x1, .f32⟩
  | .hbm, ⟨19, _⟩ => ⟨S32768x16x64, .f32⟩
  | .hbm, ⟨20, _⟩ => ⟨S32768x16x64, .f32⟩
  | .hbm, ⟨21, _⟩ => ⟨S1x1x64, .f32⟩
  | .hbm, ⟨22, _⟩ => ⟨S32768x16x64, .f32⟩
  | .hbm, ⟨23, _⟩ => ⟨S32768x16x64, .f32⟩
  | .hbm, ⟨24, _⟩ => ⟨S_, .f32⟩
  | .hbm, ⟨25, _⟩ => ⟨S32768x16x64, .f32⟩
  | .hbm, ⟨26, _⟩ => ⟨S32768x16x64, .f32⟩
  | .hbm, ⟨27, _⟩ => ⟨S32768x4x64, .f32⟩
  | .hbm, ⟨28, _⟩ => ⟨S64, .f32⟩
  | .hbm, ⟨29, _⟩ => ⟨S32768x4x64, .f32⟩
  | .hbm, ⟨30, _⟩ => ⟨S_, .f32⟩
  | .hbm, ⟨31, _⟩ => ⟨S32768x4, .f32⟩
  | .hbm, ⟨32, _⟩ => ⟨S32768x4x1, .f32⟩
  | .hbm, ⟨33, _⟩ => ⟨S_, .f32⟩
  | .hbm, ⟨34, _⟩ => ⟨S32768x4x1, .f32⟩
  | .hbm, ⟨35, _⟩ => ⟨S32768x4x1, .f32⟩
  | .hbm, ⟨36, _⟩ => ⟨S_, .f32⟩
  | .hbm, ⟨37, _⟩ => ⟨S32768x4x1, .f32⟩
  | .hbm, ⟨38, _⟩ => ⟨S32768x4x1, .f32⟩
  | .hbm, ⟨39, _⟩ => ⟨S32768x4x1, .f32⟩
  | .hbm, ⟨40, _⟩ => ⟨S32768x4x64, .f32⟩
  | .hbm, ⟨41, _⟩ => ⟨S32768x4x64, .f32⟩
  | .hbm, ⟨42, _⟩ => ⟨S1x1x64, .f32⟩
  | .hbm, ⟨43, _⟩ => ⟨S32768x4x64, .f32⟩
  | .hbm, ⟨44, _⟩ => ⟨S32768x4x64, .f32⟩
  | .hbm, ⟨45, _⟩ => ⟨S32768x1024, .f32⟩
  | .hbm, ⟨46, _⟩ => ⟨S32768x1024, .bf16⟩
  | .hbm, ⟨47, _⟩ => ⟨S32768x256, .f32⟩
  | _, _ => ⟨S32768x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Conv.lean ====
abbrev S32768x8832 : Shape := ⟨2, ![32768, 8832]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x128 : Shape := ⟨2, ![128, 128]⟩
abbrev S4x3072 : Shape := ⟨2, ![4, 3072]⟩
abbrev S3072 : Shape := ⟨1, ![3072]⟩
abbrev S32 : Shape := ⟨1, ![32]⟩
abbrev S_ : Shape := ⟨0, ![]⟩
abbrev S128 : Shape := ⟨1, ![128]⟩
abbrev S1x128 : Shape := ⟨2, ![1, 128]⟩
abbrev S32x64 : Shape := ⟨2, ![32, 64]⟩
abbrev S2048 : Shape := ⟨1, ![2048]⟩
abbrev S32768x2048 : Shape := ⟨2, ![32768, 2048]⟩
abbrev S8x32x64x128 : Shape := ⟨4, ![8, 32, 64, 128]⟩
abbrev S8x8x3072 : Shape := ⟨3, ![8, 8, 3072]⟩
abbrev S128x3072 : Shape := ⟨2, ![128, 3072]⟩
abbrev S128x2048 : Shape := ⟨2, ![128, 2048]⟩
abbrev S1x32x64x128 : Shape := ⟨4, ![1, 32, 64, 128]⟩
abbrev S1x8x3072 : Shape := ⟨3, ![1, 8, 3072]⟩
abbrev S136x3072 : Shape := ⟨2, ![136, 3072]⟩
abbrev S8x3072 : Shape := ⟨2, ![8, 3072]⟩
abbrev S1x512 : Shape := ⟨2, ![1, 512]⟩
abbrev S128x512 : Shape := ⟨2, ![128, 512]⟩
abbrev S128x1 : Shape := ⟨2, ![128, 1]⟩
abbrev S1x2x64x128 : Shape := ⟨4, ![1, 2, 64, 128]⟩
abbrev S2x64x128 : Shape := ⟨3, ![2, 64, 128]⟩
abbrev S8x3x3072 : Shape := ⟨3, ![8, 3, 3072]⟩
abbrev S1x8x3x3072 : Shape := ⟨4, ![1, 8, 3, 3072]⟩

abbrev nBuf : Space → Nat
  | .hbm => 32
  | .vmem => 22
  | .smem => 0
  | _ => 0

abbrev bufTy : (tb : Table) → Fin (tcTables nBuf tb) → BufTy
  | .hbm, ⟨0, _⟩ => ⟨S32768x8832, .f32⟩
  | .hbm, ⟨1, _⟩ => ⟨S1x4x3072, .f32⟩
  | .hbm, ⟨2, _⟩ => ⟨S1x3072, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x2048, .f32⟩
  | .hbm, ⟨7, _⟩ => ⟨S128x128, .bf16⟩
  | .hbm, ⟨8, _⟩ => ⟨S4x3072, .f32⟩
  | .hbm, ⟨9, _⟩ => ⟨S3072, .f32⟩
  | .hbm, ⟨10, _⟩ => ⟨S1x3072, .f32⟩
  | .hbm, ⟨11, _⟩ => ⟨S32, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S32, .f32⟩
  | .hbm, ⟨22, _⟩ => ⟨S32x64, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S32768x2048, .bf16⟩
  | .hbm, ⟨28, _⟩ => ⟨S8x32x64x128, .f32⟩
  | .hbm, ⟨29, _⟩ => ⟨S8x8x3072, .f32⟩
  | .hbm, ⟨30, _⟩ => ⟨S8x3x3072, .f32⟩
  | .hbm, ⟨31, _⟩ => ⟨S1x8x3x3072, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x128, .bf16⟩
  | .local _ .vmem, ⟨13, _⟩ => ⟨S128x2048, .bf16⟩
  | .local _ .vmem, ⟨14, _⟩ => ⟨S128x2048, .bf16⟩
  | .local _ .vmem, ⟨15, _⟩ => ⟨S1x32x64x128, .f32⟩
  | .local _ .vmem, ⟨16, _⟩ => ⟨S1x32x64x128, .f32⟩
  | .local _ .vmem, ⟨17, _⟩ => ⟨S1x8x3072, .f32⟩
  | .local _ .vmem, ⟨18, _⟩ => ⟨S1x8x3072, .f32⟩
  | .local _ .vmem, ⟨19, _⟩ => ⟨S136x3072, .f32⟩
  | .local _ .vmem, ⟨20, _⟩ => ⟨S128x3072, .f32⟩
  | .local _ .vmem, ⟨21, _⟩ => ⟨S128x2048, .f32⟩
  | _, _ => ⟨S32768x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c68_i32 : BitVec 32 := 68#32
  let c0_i32 : BitVec 32 := 0#32
  ![v1.toNat, c68_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConvRefIdeal.lean ====
abbrev S32768x8832 : Shape := ⟨2, ![32768, 8832]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S32768x3072 : Shape := ⟨2, ![32768, 3072]⟩
abbrev S8x4096x3072 : Shape := ⟨3, ![8, 4096, 3072]⟩
abbrev S_ : Shape := ⟨0, ![]⟩
abbrev S8x3x3072 : Shape := ⟨3, ![8, 3, 3072]⟩
abbrev S8x4099x3072 : Shape := ⟨3, ![8, 4099, 3072]⟩
abbrev S1x8x3x3072 : Shape := ⟨4, ![1, 8, 3, 3072]⟩

abbrev nBuf : Space → Nat
  | .hbm => 14
  | .vmem => 0
  | .smem => 0
  | _ => 0

abbrev bufTy : (tb : Table) → Fin (tcTables nBuf tb) → BufTy
  | .hbm, ⟨0, _⟩ => ⟨S32768x8832, .f32⟩
  | .hbm, ⟨1, _⟩ => ⟨S1x4x3072, .f32⟩
  | .hbm, ⟨2, _⟩ => ⟨S1x3072, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x2048, .f32⟩
  | .hbm, ⟨7, _⟩ => ⟨S32768x3072, .f32⟩
  | .hbm, ⟨8, _⟩ => ⟨S8x4096x3072, .f32⟩
  | .hbm, ⟨9, _⟩ => ⟨S_, .f32⟩
  | .hbm, ⟨10, _⟩ => ⟨S8x3x3072, .f32⟩
  | .hbm, ⟨11, _⟩ => ⟨S8x4099x3072, .f32⟩
  | .hbm, ⟨12, _⟩ => ⟨S8x3x3072, .f32⟩
  | .hbm, ⟨13, _⟩ => ⟨S1x8x3x3072, .f32⟩
  | _, _ => ⟨S32768x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== FfnS.lean ====
abbrev S1024x1024 : Shape := ⟨2, ![1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 14
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnSRefIdeal.lean ====
abbrev S1024x1024 : Shape := ⟨2, ![1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1024x1 : Shape := ⟨2, ![1024, 1]⟩
abbrev S1024x2816 : Shape := ⟨2, ![1024, 2816]⟩
abbrev S2816x1024 : Shape := ⟨2, ![2816, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | .hbm, ⟨22, _⟩ => ⟨S1024x2816, .f32⟩
  | .hbm, ⟨23, _⟩ => ⟨S1024x2816, .f32⟩
  | .hbm, ⟨24, _⟩ => ⟨S1024x2816, .f32⟩
  | .hbm, ⟨25, _⟩ => ⟨S1024x2816, .f32⟩
  | .hbm, ⟨26, _⟩ => ⟨S_, .f32⟩
  | .hbm, ⟨27, _⟩ => ⟨S1024x2816, .f32⟩
  | .hbm, ⟨28, _⟩ => ⟨S1024x2816, .f32⟩
  | .hbm, ⟨29, _⟩ => ⟨S_, .f32⟩
  | .hbm, ⟨30, _⟩ => ⟨S1024x2816, .f32⟩
  | .hbm, ⟨31, _⟩ => ⟨S1024x2816, .f32⟩
  | .hbm, ⟨32, _⟩ => ⟨S1024x2816, .f32⟩
  | .hbm, ⟨33, _⟩ => ⟨S1024x2816, .f32⟩
  | .hbm, ⟨34, _⟩ => ⟨S1024x2816, .f32⟩
  | .hbm, ⟨35, _⟩ => ⟨S1024x2816, .f32⟩
  | .hbm, ⟨36, _⟩ => ⟨S2816x1024, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== QkvS.lean ====
abbrev S1024x8832 : Shape := ⟨2, ![1024, 8832]⟩
abbrev S1x64 : Shape := ⟨2, ![1, 64]⟩
abbrev S256x256 : Shape := ⟨2, ![256, 256]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1024x1024 : Shape := ⟨2, ![1024, 1024]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S1024x8832, .f32⟩
  | .hbm, ⟨1, _⟩ => ⟨S1x64, .f32⟩
  | .hbm, ⟨2, _⟩ => ⟨S1x64, .f32⟩
  | .hbm, ⟨3, _⟩ => ⟨S256x256, .bf16⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S1024x1024, .bf16⟩
  | .hbm, ⟨15, _⟩ => ⟨S1024x256, .f32⟩
  | .hbm, ⟨16, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S512x1024, .bf16⟩
  | .local _ .vmem, ⟨10, _⟩ => ⟨S512x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_2 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvSRefIdeal.lean ====
abbrev S1024x8832 : Shape := ⟨2, ![1024, 8832]⟩
abbrev S1x64 : Shape := ⟨2, ![1, 64]⟩
abbrev S1024x1024 : Shape := ⟨2, ![1024, 1024]⟩
abbrev S1024x256 : Shape := ⟨2, ![1024, 256]⟩
abbrev S1024x16x64 : Shape := ⟨3, ![1024, 16, 64]⟩
abbrev S64 : Shape := ⟨1, ![64]⟩
abbrev S_ : Shape := ⟨0, ![]⟩
abbrev S1024x16 : Shape := ⟨2, ![1024, 16]⟩
abbrev S1024x16x1 : Shape := ⟨3, ![1024, 16, 1]⟩
abbrev S1x1x64 : Shape := ⟨3, ![1, 1, 64]⟩
abbrev S1024x4x64 : Shape := ⟨3, ![1024, 4, 64]⟩
abbrev S1024x4 : Shape := ⟨2, ![1024, 4]⟩
abbrev S1024x4x1 : Shape := ⟨3, ![1024, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S1024x8832, .f32⟩
  | .hbm, ⟨1, _⟩ => ⟨S1x64, .f32⟩
  | .hbm, ⟨2, _⟩ => ⟨S1x64, .f32⟩
  | .hbm, ⟨3, _⟩ => ⟨S1024x1024, .f32⟩
  | .hbm, ⟨4, _⟩ => ⟨S1024x256, .f32⟩
  | .hbm, ⟨5, _⟩ => ⟨S1024x256, .f32⟩
  | .hbm, ⟨6, _⟩ => ⟨S1024x16x64, .f32⟩
  | .hbm, ⟨7, _⟩ => ⟨S64, .f32⟩
  | .hbm, ⟨8, _⟩ => ⟨S1024x16x64, .f32⟩
  | .hbm, ⟨9, _⟩ => ⟨S_, .f32⟩
  | .hbm, ⟨10, _⟩ => ⟨S1024x16, .f32⟩
  | .hbm, ⟨11, _⟩ => ⟨S1024x16x1, .f32⟩
  | .hbm, ⟨12, _⟩ => ⟨S_, .f32⟩
  | .hbm, ⟨13, _⟩ => ⟨S1024x16x1, .f32⟩
  | .hbm, ⟨14, _⟩ => ⟨S1024x16x1, .f32⟩
  | .hbm, ⟨15, _⟩ => ⟨S_, .f32⟩
  | .hbm, ⟨16, _⟩ => ⟨S1024x16x1, .f32⟩
  | .hbm, ⟨17, _⟩ => ⟨S1024x16x1, .f32⟩
  | .hbm, ⟨18, _⟩ => ⟨S1024x16x1, .f32⟩
  | .hbm, ⟨19, _⟩ => ⟨S1024x16x64, .f32⟩
  | .hbm, ⟨20, _⟩ => ⟨S1024x16x64, .f32⟩
  | .hbm, ⟨21, _⟩ => ⟨S1x1x64, .f32⟩
  | .hbm, ⟨22, _⟩ => ⟨S1024x16x64, .f32⟩
  | .hbm, ⟨23, _⟩ => ⟨S1024x16x64, .f32⟩
  | .hbm, ⟨24, _⟩ => ⟨S_, .f32⟩
  | .hbm, ⟨25, _⟩ => ⟨S1024x16x64, .f32⟩
  | .hbm, ⟨26, _⟩ => ⟨S1024x16x64, .f32⟩
  | .hbm, ⟨27, _⟩ => ⟨S1024x4x64, .f32⟩
  | .hbm, ⟨28, _⟩ => ⟨S64, .f32⟩
  | .hbm, ⟨29, _⟩ => ⟨S1024x4x64, .f32⟩
  | .hbm, ⟨30, _⟩ => ⟨S_, .f32⟩
  | .hbm, ⟨31, _⟩ => ⟨S1024x4, .f32⟩
  | .hbm, ⟨32, _⟩ => ⟨S1024x4x1, .f32⟩
  | .hbm, ⟨33, _⟩ => ⟨S_, .f32⟩
  | .hbm, ⟨34, _⟩ => ⟨S1024x4x1, .f32⟩
  | .hbm, ⟨35, _⟩ => ⟨S1024x4x1, .f32⟩
  | .hbm, ⟨36, _⟩ => ⟨S_, .f32⟩
  | .hbm, ⟨37, _⟩ => ⟨S1024x4x1, .f32⟩
  | .hbm, ⟨38, _⟩ => ⟨S1024x4x1, .f32⟩
  | .hbm, ⟨39, _⟩ => ⟨S1024x4x1, .f32⟩
  | .hbm, ⟨40, _⟩ => ⟨S1024x4x64, .f32⟩
  | .hbm, ⟨41, _⟩ => ⟨S1024x4x64, .f32⟩
  | .hbm, ⟨42, _⟩ => ⟨S1x1x64, .f32⟩
  | .hbm, ⟨43, _⟩ => ⟨S1024x4x64, .f32⟩
  | .hbm, ⟨44, _⟩ => ⟨S1024x4x64, .f32⟩
  | .hbm, ⟨45, _⟩ => ⟨S1024x1024, .f32⟩
  | .hbm, ⟨46, _⟩ => ⟨S1024x1024, .bf16⟩
  | .hbm, ⟨47, _⟩ => ⟨S1024x256, .f32⟩
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== ConvS.lean ====
abbrev S1024x8832 : Shape := ⟨2, ![1024, 8832]⟩
abbrev S1x128x3x3072 : Shape := ⟨4, ![1, 128, 3, 3072]⟩
abbrev S1x128x32x64x128 : Shape := ⟨5, ![1, 128, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x128 : Shape := ⟨2, ![128, 128]⟩
abbrev S4x3072 : Shape := ⟨2, ![4, 3072]⟩
abbrev S3072 : Shape := ⟨1, ![3072]⟩
abbrev S32 : Shape := ⟨1, ![32]⟩
abbrev S_ : Shape := ⟨0, ![]⟩
abbrev S128 : Shape := ⟨1, ![128]⟩
abbrev S1x128 : Shape := ⟨2, ![1, 128]⟩
abbrev S32x64 : Shape := ⟨2, ![32, 64]⟩
abbrev S2048 : Shape := ⟨1, ![2048]⟩
abbrev S128x3x3072 : Shape := ⟨3, ![128, 3, 3072]⟩
abbrev S128x8x3072 : Shape := ⟨3, ![128, 8, 3072]⟩
abbrev S128x32x64x128 : Shape := ⟨4, ![128, 32, 64, 128]⟩
abbrev S1024x2048 : Shape := ⟨2, ![1024, 2048]⟩
abbrev S8x3072 : Shape := ⟨2, ![8, 3072]⟩
abbrev S8x2048 : Shape := ⟨2, ![8, 2048]⟩
abbrev S8x128 : Shape := ⟨2, ![8, 128]⟩
abbrev S1x8x3072 : Shape := ⟨3, ![1, 8, 3072]⟩
abbrev S1x32x64x128 : Shape := ⟨4, ![1, 32, 64, 128]⟩
abbrev S136x3072 : Shape := ⟨2, ![136, 3072]⟩
abbrev S128x3072 : Shape := ⟨2, ![128, 3072]⟩
abbrev S128x2048 : Shape := ⟨2, ![128, 2048]⟩
abbrev S120x3072 : Shape := ⟨2, ![120, 3072]⟩
abbrev S1x512 : Shape := ⟨2, ![1, 512]⟩
abbrev S128x512 : Shape := ⟨2, ![128, 512]⟩
abbrev S120x128 : Shape := ⟨2, ![120, 128]⟩
abbrev S128x1 : Shape := ⟨2, ![128, 1]⟩
abbrev S1x2x64x128 : Shape := ⟨4, ![1, 2, 64, 128]⟩
abbrev S2x64x128 : Shape := ⟨3, ![2, 64, 128]⟩
abbrev S120x2048 : Shape := ⟨2, ![120, 2048]⟩
abbrev S8x512 : Shape := ⟨2, ![8, 512]⟩

abbrev nBuf : Space → Nat
  | .hbm => 39
  | .vmem => 26
  | .smem => 0
  | _ => 0

abbrev bufTy : (tb : Table) → Fin (tcTables nBuf tb) → BufTy
  | .hbm, ⟨0, _⟩ => ⟨S1024x8832, .f32⟩
  | .hbm, ⟨1, _⟩ => ⟨S1x128x3x3072, .f32⟩
  | .hbm, ⟨2, _⟩ => ⟨S1x128x32x64x128, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x2048, .f32⟩
  | .hbm, ⟨9, _⟩ => ⟨S128x128, .bf16⟩
  | .hbm, ⟨10, _⟩ => ⟨S4x3072, .f32⟩
  | .hbm, ⟨11, _⟩ => ⟨S3072, .f32⟩
  | .hbm, ⟨12, _⟩ => ⟨S1x3072, .f32⟩
  | .hbm, ⟨13, _⟩ => ⟨S32, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S32, .f32⟩
  | .hbm, ⟨24, _⟩ => ⟨S32x64, .f32⟩
  | .hbm, ⟨25, _⟩ => ⟨S2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S128x3x3072, .f32⟩
  | .hbm, ⟨30, _⟩ => ⟨S_, .i32⟩
  | .hbm, ⟨31, _⟩ => ⟨S_, .f32⟩
  | .hbm, ⟨32, _⟩ => ⟨S128x8x3072, .f32⟩
  | .hbm, ⟨33, _⟩ => ⟨S128x32x64x128, .f32⟩
  | .hbm, ⟨34, _⟩ => ⟨S1024x2048, .f32⟩
  | .hbm, ⟨35, _⟩ => ⟨S128x32x64x128, .f32⟩
  | .hbm, ⟨36, _⟩ => ⟨S128x8x3072, .f32⟩
  | .hbm, ⟨37, _⟩ => ⟨S128x3x3072, .f32⟩
  | .hbm, ⟨38, _⟩ => ⟨S1x128x3x3072, .f32⟩
  | .local _ .vmem, ⟨0, _⟩ => ⟨S8x3072, .f32⟩
  | .local _ .vmem, ⟨1, _⟩ => ⟨S8x3072, .f32⟩
  | .local _ .vmem, ⟨2, _⟩ => ⟨S8x2048, .f32⟩
  | .local _ .vmem, ⟨3, _⟩ => ⟨S8x2048, .f32⟩
  | .local _ .vmem, ⟨4, _⟩ => ⟨S8x128, .f32⟩
  | .local _ .vmem, ⟨5, _⟩ => ⟨S8x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x128, .bf16⟩
  | .local _ .vmem, ⟨13, _⟩ => ⟨S1x8x3072, .f32⟩
  | .local _ .vmem, ⟨14, _⟩ => ⟨S1x8x3072, .f32⟩
  | .local _ .vmem, ⟨15, _⟩ => ⟨S1x32x64x128, .f32⟩
  | .local _ .vmem, ⟨16, _⟩ => ⟨S1x32x64x128, .f32⟩
  | .local _ .vmem, ⟨17, _⟩ => ⟨S8x2048, .f32⟩
  | .local _ .vmem, ⟨18, _⟩ => ⟨S8x2048, .f32⟩
  | .local _ .vmem, ⟨19, _⟩ => ⟨S1x32x64x128, .f32⟩
  | .local _ .vmem, ⟨20, _⟩ => ⟨S1x32x64x128, .f32⟩
  | .local _ .vmem, ⟨21, _⟩ => ⟨S1x8x3072, .f32⟩
  | .local _ .vmem, ⟨22, _⟩ => ⟨S1x8x3072, .f32⟩
  | .local _ .vmem, ⟨23, _⟩ => ⟨S136x3072, .f32⟩
  | .local _ .vmem, ⟨24, _⟩ => ⟨S128x3072, .f32⟩
  | .local _ .vmem, ⟨25, _⟩ => ⟨S128x2048, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c68_i32 : BitVec 32 := 68#32
  let c0_i32 : BitVec 32 := 0#32
  ![v1.toNat, c68_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ConvSRefIdeal.lean ====
abbrev S1024x8832 : Shape := ⟨2, ![1024, 8832]⟩
abbrev S1x128x3x3072 : Shape := ⟨4, ![1, 128, 3, 3072]⟩
abbrev S1x128x32x64x128 : Shape := ⟨5, ![1, 128, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x128 : Shape := ⟨2, ![128, 128]⟩
abbrev S1024x3072 : Shape := ⟨2, ![1024, 3072]⟩
abbrev S128x8x3072 : Shape := ⟨3, ![128, 8, 3072]⟩
abbrev S128x3x3072 : Shape := ⟨3, ![128, 3, 3072]⟩
abbrev S128x11x3072 : Shape := ⟨3, ![128, 11, 3072]⟩

abbrev nBuf : Space → Nat
  | .hbm => 16
  | .vmem => 0
  | .smem => 0
  | _ => 0

abbrev bufTy : (tb : Table) → Fin (tcTables nBuf tb) → BufTy
  | .hbm, ⟨0, _⟩ => ⟨S1024x8832, .f32⟩
  | .hbm, ⟨1, _⟩ => ⟨S1x128x3x3072, .f32⟩
  | .hbm, ⟨2, _⟩ => ⟨S1x128x32x64x128, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x2048, .f32⟩
  | .hbm, ⟨9, _⟩ => ⟨S128x128, .bf16⟩
  | .hbm, ⟨10, _⟩ => ⟨S1024x3072, .f32⟩
  | .hbm, ⟨11, _⟩ => ⟨S128x8x3072, .f32⟩
  | .hbm, ⟨12, _⟩ => ⟨S128x3x3072, .f32⟩
  | .hbm, ⟨13, _⟩ => ⟨S128x11x3072, .f32⟩
  | .hbm, ⟨14, _⟩ => ⟨S128x3x3072, .f32⟩
  | .hbm, ⟨15, _⟩ => ⟨S1x128x3x3072, .f32⟩
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Proof.StickMath.lean ====
/-
  The arithmetic of stick-breaking attention, free of any program: one query position `t` attends to the keys `s < t`
  of a sequence of 4096 with weight `exp (logB (z s) + ∑_{s < j} log1m (z j))`, the sum over the keys between `s` and
  `t`. Key tiles of 256 are taken from the query's own tile down to tile 0, a carry holding the sum over the tiles
  already taken.
-/
module

public import Idealize.ShloMosaic.Lib.Pointwise

@[expose] public section

noncomputable section

namespace Cert.Stick

open Idealize.ShloMosaic Finset

/-- `log (1 + e^(-|z|))`. -/
def soft (z : ℝ) : ℝ := Real.log (1 + Real.exp (-|z|))

/-- The logarithm of the probability to stop at a key of logit `z`. -/
def logB (z : ℝ) : ℝ := min z 0 - soft z

/-- The logarithm of the probability to go on past a key of logit `z`. -/
def log1m (z : ℝ) : ℝ := min (-z) 0 - soft z

/-- `log1m` of key `s`, counted only at the keys before the query `t`. -/
def pass (z : ℕ → ℝ) (t s : ℕ) : ℝ := if s < t then log1m (z s) else 0

/-- The weight that query `t` gives key `s`. -/
def weight (z : ℕ → ℝ) (t s : ℕ) : ℝ :=
  if s < t then Real.exp (logB (z s) + ∑ j ∈ Ioo s 4096, pass z t j) else 0

/-- The sum that the keys from `a` on leave in the carry. -/
def carry (z : ℕ → ℝ) (t a : ℕ) : ℝ := ∑ j ∈ Ico a 4096, pass z t j

/-- The weighted values of the keys from `a` on. -/
def acc (z : ℕ → ℝ) (v : ℕ → EReal) (t a : ℕ) : EReal := ∑ s ∈ Ico a 4096, (weight z t s : EReal) * v s

/-- Over a tile of 256 from `a`, the sum over the later places of the tile and over the later tiles is the sum over
    the later keys. -/
theorem suffix_tile (f : ℕ → ℝ) (a : ℕ) (ha : a + 256 ≤ 4096) (c : Fin 256) :
    (∑ k : Fin 256, f (a + k) * (if c.val < k.val then 1 else 0)) + ∑ j ∈ Ico (a + 256) 4096, f j
      = ∑ j ∈ Ioo (a + c.val) 4096, f j := by
  have h1 : (∑ k : Fin 256, f (a + k) * (if c.val < k.val then 1 else 0))
      = ∑ j ∈ Ico (a + c.val + 1) (a + 256), f j := by
    rw [Fin.sum_univ_eq_sum_range (fun k => f (a + k) * (if c.val < k then (1 : ℝ) else 0)) 256]
    have h2 := Finset.sum_Ico_add f (c.val + 1) 256 a
    rw [show a + c.val + 1 = c.val + 1 + a by omega, show a + 256 = 256 + a by omega, ← h2]
    simp only [mul_ite, mul_one, mul_zero]
    rw [← Finset.sum_filter]
    refine Finset.sum_congr ?_ fun _ _ => rfl
    ext k
    simp only [mem_filter, mem_range, mem_Ico]
    omega
  rw [h1, Finset.sum_Ico_consecutive _ (by have := c.isLt; omega) ha]
  refine Finset.sum_congr ?_ fun _ _ => rfl
  ext k
  simp only [mem_Ioo, mem_Ico]
  omega

/-- A tile's sum added to the carry is the carry from the tile on. -/
theorem carry_tile (z : ℕ → ℝ) (t a : ℕ) (ha : a + 256 ≤ 4096) :
    carry z t (a + 256) + ∑ k : Fin 256, pass z t (a + k) = carry z t a := by
  unfold carry
  rw [Fin.sum_univ_eq_sum_range (fun k => pass z t (a + k)) 256, add_comm,
    ← Finset.sum_Ico_consecutive _ (show a ≤ a + 256 by omega) ha]
  congr 1
  rw [Finset.range_eq_Ico, Finset.sum_Ico_add (pass z t) 0 256 a, Nat.zero_add, Nat.add_comm 256 a]

/-- A tile's weighted values added to what the later tiles left. -/
theorem acc_tile (z : ℕ → ℝ) (v : ℕ → EReal) (t a : ℕ) (ha : a + 256 ≤ 4096) :
    acc z v t (a + 256) + ∑ k : Fin 256, (weight z t (a + k) : EReal) * v (a + k) = acc z v t a := by
  unfold acc
  rw [Fin.sum_univ_eq_sum_range (fun k => (weight z t (a + k) : EReal) * v (a + k)) 256, add_comm,
    ← Finset.sum_Ico_consecutive _ (show a ≤ a + 256 by omega) ha]
  congr 1
  rw [Finset.range_eq_Ico, Finset.sum_Ico_add (fun s => (weight z t s : EReal) * v s) 0 256 a, Nat.zero_add,
    Nat.add_comm 256 a]

/-- No key after the query counts: the carry is 0 there, -/
theorem carry_after (z : ℕ → ℝ) (t a : ℕ) (h : t ≤ a) : carry z t a = 0 :=
  Finset.sum_eq_zero fun j hj => if_neg (by have := (mem_Ico.mp hj).1; omega)

/-- and so are the weighted values. -/
theorem acc_after (z : ℕ → ℝ) (v : ℕ → EReal) (t a : ℕ) (h : t ≤ a) : acc z v t a = 0 :=
  Finset.sum_eq_zero fun j hj => by
    unfold weight
    rw [if_neg (by have := (mem_Ico.mp hj).1; omega), EReal.coe_zero, zero_mul]

/-- A sum of reals is the same sum of extended reals. -/
theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- `log1p (exp (-|z|))` at a real number. -/
theorem log1p_exp (z : ℝ) : Ideal.log1p (Ideal.exp ((-|z| : ℝ) : EReal)) = (soft z : EReal) := by
  rw [Ideal.exp_coe, Ideal.log1p, ← EReal.coe_one, ← EReal.coe_add, Ideal.log_coe,
    if_neg (not_le.mpr (add_pos one_pos (Real.exp_pos _)))]
  rfl

/-- The larger of a real number and its opposite is its absolute value. -/
theorem max_neg (z : ℝ) : max (z : EReal) (-(z : EReal)) = ((|z| : ℝ) : EReal) := by
  rw [← EReal.coe_neg, ← EReal.coe_strictMono.monotone.map_max]; rfl

end Cert.Stick
-- ==== Proof.AttnTile.lean ====
/-
  One key tile of the attention kernel at one query row: what the payloads of the first head's loop, and of its own
  (masked) tile, leave in the carry and in the weighted values.
-/
module

public import proofs.«01_k».proof.Proof.Gen.AttnIdeal.Skeleton
public import proofs.«01_k».proof.Proof.StickMath
public import Idealize.ShloMosaic.Lib.WordCmp

@[expose] public section

set_option maxRecDepth 16384

noncomputable section

namespace Cert.Attn

open Idealize.ShloMosaic Cert.AttnIdeal Cert.AttnIdeal.Gen

/-- `u` is the strictly lower triangle of ones: row `k`, column `c` holds 1 where `c < k`. -/
def IsTri (u : Vec Ideal S256x256 .bf16) : Prop :=
  ∀ k c : Fin 256, u (ix2 k c) = ((if c.val < k.val then (1 : ℝ) else 0 : ℝ) : EReal)

/-- The row's sums against the triangle, their low parts (0 over the reals) and the carry are the sum over the
    later keys. -/
theorem exponent (z : ℕ → ℝ) (t a : ℕ) (ha : a + 256 ≤ 4096) (c : Fin 256) (l u : Fin 256 → EReal) (cr : EReal)
    (hl : ∀ k, l k = (Stick.pass z t (a + k) : EReal)) (hu : ∀ k, u k = ((if c.val < k.val then (1 : ℝ) else 0 : ℝ) : EReal))
    (hc : cr = (Stick.carry z t (a + 256) : EReal)) :
    ∑ k, l k * u k + ∑ k, (l k - l k) * u k + cr
      = ((∑ j ∈ Finset.Ioo (a + c.val) 4096, Stick.pass z t j : ℝ) : EReal) := by
  rw [← Stick.suffix_tile (Stick.pass z t) a ha c]
  simp only [hl, hu, hc, ← EReal.coe_sub, ← EReal.coe_mul, sub_self, zero_mul, EReal.coe_zero, Finset.sum_const_zero,
    add_zero, Stick.coe_sum, ← EReal.coe_add, Stick.carry]

variable (q : FVec Ideal S256x64 .bf16) (b : Elt Ideal .f32) (kt : Vec Ideal S1x1x1x64x256 .bf16)

/-- A logit of the tile: the query's product with the key, and the bias. -/
theorem logit_at (r c : Fin 256) :
    k0_pay2 (F := Ideal) q b kt (ix2 r c) = (∑ k : Fin 64, q (ix2 r k) * kt (ix5 0 0 0 k c)) + b := by
  pointwise [k0_pay2]

/-- The tile's `log1p (exp (-|z|))`. -/
theorem soft_at (r c : Fin 256) (z : ℝ) (h : k0_pay2 (F := Ideal) q b kt (ix2 r c) = (z : EReal)) :
    k0_pay3 (F := Ideal) q b kt (ix2 r c) = (Stick.soft z : EReal) := by
  pointwise [k0_pay3]
  rw [h, Ideal.absf_def, Stick.max_neg, zero_sub, ← EReal.coe_neg, Stick.log1p_exp]

/-- The tile's logarithm of the probability to go on. -/
theorem log1m_at (r c : Fin 256) (z : ℝ) (h : k0_pay2 (F := Ideal) q b kt (ix2 r c) = (z : EReal)) :
    k0_pay4 (F := Ideal) q b kt (ix2 r c) = (Stick.log1m z : EReal) := by
  pointwise [k0_pay4]
  rw [soft_at q b kt r c z h, h, zero_sub, ← EReal.coe_neg, ← EReal.coe_zero,
    ← EReal.coe_strictMono.monotone.map_min, ← EReal.coe_sub]
  rfl

/-- The logarithm of the probability to stop, from a logit and its `soft`. -/
theorem logB_coe (z : ℝ) : min (z : EReal) 0 - (Stick.soft z : EReal) = (Stick.logB z : EReal) := by
  rw [← EReal.coe_zero, ← EReal.coe_strictMono.monotone.map_min, ← EReal.coe_sub]
  rfl

/-- A tile before the query's own: the weighted values. -/
theorem loop_acc_at (u : Vec Ideal S256x256 .bf16) (hu : IsTri u) (z : ℕ → ℝ) (val : ℕ → EReal) (t a : ℕ)
    (ha : a + 256 ≤ 4096) (hat : a + 256 ≤ t) (cr : FVec Ideal S256x1 .f32) (ac : FVec Ideal S256x64 .f32)
    (v : Vec Ideal S1x1x1x256x64 .bf16) (r : Fin 256) (d : Fin 64)
    (hz : ∀ c : Fin 256, k0_pay2 (F := Ideal) q b kt (ix2 r c) = (z (a + c) : EReal))
    (hv : ∀ c : Fin 256, v (ix5 0 0 0 c d) = val (a + c))
    (hc : cr (ix2 r 0) = (Stick.carry z t (a + 256) : EReal)) (hac : ac (ix2 r d) = Stick.acc z val t (a + 256)) :
    k0_pay5 (F := Ideal) u q b cr ac kt v (ix2 r d) = Stick.acc z val t a := by
  pointwise [k0_pay5]
  rw [hac, ← Stick.acc_tile z val t a ha]
  refine congrArg _ (Finset.sum_congr rfl fun c _ => ?_)
  have hp : ∀ k : Fin 256, Stick.pass z t (a + k) = Stick.log1m (z (a + k)) := fun k => if_pos (by have := k.isLt; omega)
  rw [exponent z t a ha c (fun k => k0_pay4 (F := Ideal) q b kt (ix2 r k)) (fun k => u (ix2 k c)) _
      (fun k => by rw [hp, log1m_at q b kt r k _ (hz k)]) (fun k => hu k c) hc,
    soft_at q b kt r c _ (hz c), hz c, hv c, logB_coe, ← EReal.coe_add, Ideal.exp_coe, Stick.weight,
    if_pos (by have := c.isLt; omega)]

/-- A tile before the query's own: the carry. -/
theorem loop_carry_at (z : ℕ → ℝ) (t a : ℕ) (ha : a + 256 ≤ 4096) (hat : a + 256 ≤ t) (cr : FVec Ideal S256x1 .f32)
    (r : Fin 256) (hz : ∀ c : Fin 256, k0_pay2 (F := Ideal) q b kt (ix2 r c) = (z (a + c) : EReal))
    (hc : cr (ix2 r 0) = (Stick.carry z t (a + 256) : EReal)) :
    k0_pay6 (F := Ideal) q b cr kt (ix2 r 0) = (Stick.carry z t a : EReal) := by
  pointwise [k0_pay6]
  rw [hc, ← Stick.carry_tile z t a ha, EReal.coe_add, ← Stick.coe_sum]
  refine congrArg _ (Finset.sum_congr rfl fun c _ => ?_)
  rw [log1m_at q b kt r c _ (hz c), Stick.pass, if_pos (by have := c.isLt; omega)]

/-- The mask of the query's own tile, row `r` and column `c`: is `c` before `r`? -/
theorem mask_at (r c : Fin 256) : k0_pay42 (ix2 r c) = BitVec.ofBool (decide (c.val < r.val)) := by
  pointwise [k0_pay42]
  rw [WordCmp.cmpi_slt_ofNat (by have := c.isLt; omega) (by have := r.isLt; omega)]

/-- The masked `log1m` of the query's own tile. -/
theorem pass_at (z : ℕ → ℝ) (a : ℕ) (l : FVec Ideal S256x256 .f32) (r c : Fin 256)
    (hl : l (ix2 r c) = (Stick.log1m (z (a + c)) : EReal)) :
    k0_pay51 (F := Ideal) k0_pay42 l (ix2 r c) = (Stick.pass z (a + r) (a + c) : EReal) := by
  pointwise [k0_pay51]
  rw [mask_at, hl, Stick.pass]
  by_cases h : c.val < r.val
  · simp [h, Scalar.select]
  · simp [h, Scalar.select]

/-- The query's own tile: the weighted values. -/
theorem own_acc_at (u : Vec Ideal S256x256 .bf16) (hu : IsTri u) (z : ℕ → ℝ) (val : ℕ → EReal) (a : ℕ)
    (ha : a + 256 ≤ 4096) (cr : FVec Ideal S256x1 .f32) (ac : FVec Ideal S256x64 .f32)
    (v : FVec Ideal S256x64 .bf16) (lb l : FVec Ideal S256x256 .f32) (r : Fin 256) (d : Fin 64)
    (hlb : ∀ c : Fin 256, lb (ix2 r c) = (Stick.logB (z (a + c)) : EReal))
    (hl : ∀ c : Fin 256, l (ix2 r c) = (Stick.log1m (z (a + c)) : EReal))
    (hv : ∀ c : Fin 256, v (ix2 c d) = val (a + c)) (hc : cr (ix2 r 0) = 0) (hac : ac (ix2 r d) = 0) :
    k0_pay52 (F := Ideal) u k0_pay42 cr ac v lb l (ix2 r d) = Stick.acc z val (a + r) a := by
  pointwise [k0_pay52]
  rw [hac, ← Stick.acc_tile z val (a + r) a ha, Stick.acc_after z val _ _ (by have := r.isLt; omega)]
  refine congrArg _ (Finset.sum_congr rfl fun c _ => ?_)
  rw [exponent z (a + r) a ha c (fun k => k0_pay51 (F := Ideal) k0_pay42 l (ix2 r k)) (fun k => u (ix2 k c)) _
      (fun k => pass_at z a l r k (hl k)) (fun k => hu k c)
      (by rw [hc, Stick.carry_after z _ _ (by have := r.isLt; omega), EReal.coe_zero]),
    hlb c, hv c, ← EReal.coe_add, Ideal.exp_coe, mask_at, Stick.weight]
  by_cases h : c.val < r.val
  · simp [h, Scalar.select]
  · simp [h, Scalar.select]

/-- The query's own tile: the carry. -/
theorem own_carry_at (z : ℕ → ℝ) (a : ℕ) (ha : a + 256 ≤ 4096) (cr : FVec Ideal S256x1 .f32)
    (l : FVec Ideal S256x256 .f32) (r : Fin 256)
    (hl : ∀ c : Fin 256, l (ix2 r c) = (Stick.log1m (z (a + c)) : EReal)) (hc : cr (ix2 r 0) = 0) :
    k0_pay53 (F := Ideal) k0_pay42 cr l (ix2 r 0) = (Stick.carry z (a + r) a : EReal) := by
  pointwise [k0_pay53]
  rw [hc, ← Stick.carry_tile z (a + r) a ha, EReal.coe_add, ← Stick.coe_sum,
    Stick.carry_after z _ _ (by have := r.isLt; omega), EReal.coe_zero]
  refine congrArg _ (Finset.sum_congr rfl fun c _ => ?_)
  exact pass_at z a l r c (hl c)

end Cert.Attn
-- ==== Proof.AttnLoop.lean ====
/-
  The attention kernel's loop over the key tiles before the query's own: after every trip, the carry and the weighted
  values of a query row are those of the tiles taken so far.
-/
module

public import proofs.«01_k».proof.Proof.AttnTile

@[expose] public section

set_option maxRecDepth 16384

noncomputable section

namespace Cert.Attn

open Idealize.ShloMosaic Cert.AttnIdeal Cert.AttnIdeal.Gen

/-- The main loop runs one trip per tile before the query's own, -/
theorem main_trips (n : ℕ) (h : n < 16) :
    Scf.trips 0#32 (Scalar.addi 0#32 (Scalar.muli (Scalar.divsi (Scalar.subi (BitVec.ofNat 32 n) 0#32) 1#32) 1#32)) 1#32
      = n := by
  interval_cases n <;> decide +kernel

/-- and the remainder loop none. -/
theorem rest_trips (n : ℕ) (h : n < 16) :
    Scf.trips (Scalar.addi 0#32 (Scalar.muli (Scalar.divsi (Scalar.subi (BitVec.ofNat 32 n) 0#32) 1#32) 1#32))
      (Scalar.addi 0#32 (Scalar.subi (BitVec.ofNat 32 n) 0#32)) 1#32 = 0 := by
  interval_cases n <;> decide +kernel

/-- Trip `k` of the main loop takes tile `n - 1 - k`. -/
theorem tile_index : ∀ n k : Fin 16, k < n →
    (Scalar.indexCast (Scalar.subi (Scalar.subi (BitVec.ofNat 32 n.val) 1#32) (Scf.iv 0#32 1#32 k.val))).toNat
      = n.val - 1 - k.val := by
  decide +kernel

/-- The place before place `n`, `k` places back. -/
def back (n : Fin 16) (k : ℕ) : Fin 16 := ⟨n.val - 1 - k, by have := n.isLt; omega⟩

/-- After `k` trips the carry and the weighted values are those of the keys from tile `n - k` on. -/
theorem loop_inv (q : FVec Ideal S256x64 .bf16) (b : Elt Ideal .f32) (x2 : Vec Ideal S1x1x16x64x256 .bf16)
    (x3 : Vec Ideal S1x1x16x256x64 .bf16) (u : Vec Ideal S256x256 .bf16) (hu : IsTri u) (z : ℕ → ℝ) (val : ℕ → EReal)
    (n : Fin 16) (r : Fin 256) (d : Fin 64) (S : ℕ → FVec Ideal S256x1 .f32 × FVec Ideal S256x64 .f32)
    (hz : ∀ (p : Fin 16) (c : Fin 256), (∑ e : Fin 64, q (ix2 r e) * x2 (ix5 0 0 p e c)) + b = (z (256 * p + c) : EReal))
    (hv : ∀ (p : Fin 16) (c : Fin 256), x3 (ix5 0 0 p c d) = val (256 * p + c))
    (h0c : (S 0).1 (ix2 r 0) = (Stick.carry z (256 * n + r) (256 * n) : EReal))
    (h0a : (S 0).2 (ix2 r d) = Stick.acc z val (256 * n + r) (256 * n))
    (hS : ∀ k : ℕ, k < n.val → ∃ (kt : Vec Ideal S1x1x1x64x256 .bf16) (v : Vec Ideal S1x1x1x256x64 .bf16),
      S (k + 1) = (k0_pay6 (F := Ideal) q b (S k).1 kt, k0_pay5 (F := Ideal) u q b (S k).1 (S k).2 kt v)
      ∧ (∀ (e : Fin 64) (c : Fin 256), kt (ix5 0 0 0 e c) = x2 (ix5 0 0 (back n k) e c))
      ∧ (∀ (e : Fin 64) (c : Fin 256), v (ix5 0 0 0 c e) = x3 (ix5 0 0 (back n k) c e))) :
    ∀ k : ℕ, k ≤ n.val → (S k).1 (ix2 r 0) = (Stick.carry z (256 * n + r) (256 * (n.val - k)) : EReal)
      ∧ (S k).2 (ix2 r d) = Stick.acc z val (256 * n + r) (256 * (n.val - k)) := by
  intro k
  induction k with
  | zero => intro _; exact ⟨h0c, h0a⟩
  | succ k ih =>
    intro hk
    obtain ⟨hc, ha⟩ := ih (by omega)
    obtain ⟨kt, v, hs, hkt, hvt⟩ := hS k (by omega)
    have hn := n.isLt
    have hb : 256 * (n.val - (k + 1)) + 256 = 256 * (n.val - k) := by omega
    have hbk : 256 * (back n k).val = 256 * (n.val - (k + 1)) := by show 256 * (n.val - 1 - k) = _; omega
    rw [← hb] at hc ha
    have hz' : ∀ c : Fin 256, k0_pay2 (F := Ideal) q b kt (ix2 r c) = (z (256 * (n.val - (k + 1)) + c) : EReal) := by
      intro c
      rw [logit_at, ← hbk, ← hz]
      simp only [hkt]
    rw [hs]
    exact ⟨loop_carry_at q b kt z _ _ (by omega) (by omega) _ r hz' hc,
      loop_acc_at q b kt u hu z val _ _ (by omega) (by omega) _ _ v r d hz'
        (fun c => by rw [hvt, hv, hbk]) hc ha⟩

/-- The query's own tile, its payloads of the first head together: the carry, -/
theorem own_carry (q4 : Vec Ideal S1x1x256x64 .bf16) (b : Elt Ideal .f32) (kt : Vec Ideal S1x1x1x64x256 .bf16)
    (z : ℕ → ℝ) (n : Fin 16) (r : Fin 256)
    (hz : ∀ c : Fin 256, k0_pay2 (F := Ideal) (k0_pay43 q4) b kt (ix2 r c) = (z (256 * n + c) : EReal)) :
    k0_pay53 (F := Ideal) k0_pay42 k0_pay44 (k0_pay50 q4 b kt) (ix2 r 0)
      = (Stick.carry z (256 * n + r) (256 * n) : EReal) :=
  own_carry_at z (256 * n) (by have := n.isLt; omega) _ _ r
    (fun c => log1m_at (k0_pay43 q4) b kt r c _ (hz c)) (by pointwise [k0_pay44])

/-- and the weighted values. -/
theorem own_acc (q4 : Vec Ideal S1x1x256x64 .bf16) (b : Elt Ideal .f32) (kt : Vec Ideal S1x1x1x64x256 .bf16)
    (v : Vec Ideal S1x1x1x256x64 .bf16) (u : Vec Ideal S256x256 .bf16) (hu : IsTri u)
    (z : ℕ → ℝ) (val : ℕ → EReal) (n : Fin 16) (r : Fin 256) (d : Fin 64)
    (hz : ∀ c : Fin 256, k0_pay2 (F := Ideal) (k0_pay43 q4) b kt (ix2 r c) = (z (256 * n + c) : EReal))
    (hv : ∀ c : Fin 256, v (ix5 0 0 0 c d) = val (256 * n + c)) :
    k0_pay52 (F := Ideal) u k0_pay42 k0_pay44 k0_pay45 (k0_pay47 v) (k0_pay49 q4 b kt) (k0_pay50 q4 b kt) (ix2 r d)
      = Stick.acc z val (256 * n + r) (256 * n) := by
  refine own_acc_at u hu z val (256 * n) (by have := n.isLt; omega) _ _ _ _ _ r d (fun c => ?_)
    (fun c => log1m_at (k0_pay43 q4) b kt r c _ (hz c)) (fun c => ?_) (by pointwise [k0_pay44]) (by pointwise [k0_pay45])
  · have hs : k0_pay48 (F := Ideal) q4 b kt (ix2 r c) = (Stick.soft (z (256 * n + c)) : EReal) :=
      soft_at (k0_pay43 q4) b kt r c _ (hz c)
    have hl : k0_pay46 (F := Ideal) q4 b kt (ix2 r c) = (z (256 * n + c) : EReal) := hz c
    pointwise [k0_pay49]
    rw [hs, hl, logB_coe]
  · rw [← hv c]
    pointwise [k0_pay47]

end Cert.Attn
-- ==== Proof.AttnBlock.lean ====
/-
  One grid point of the attention kernel: the block it writes holds, for each of its four heads, the weighted values of
  256 query rows.
-/
module

public import proofs.«01_k».proof.Proof.Gen.AttnIdeal.Value
public import proofs.«01_k».proof.Proof.AttnLoop
public import Idealize.ShloMosaic.Lib.Pipeline.ValueKit
public import Idealize.ShloMosaic.Lib.WholeRead

@[expose] public section

set_option maxRecDepth 16384

noncomputable section

namespace Cert.Attn

open Idealize.ShloMosaic Cert.AttnIdeal Cert.AttnIdeal.Gen

/-- A load of one key tile of the staged keys. -/
theorem kt_read (arg5 : Memref sig .tc .vmem S1x1x16x64x256 .bf16) (harg5 : arg5.IsWhole)
    (x2 : Vec Ideal S1x1x16x64x256 .bf16) (off : Fin 5 → ℕ) (hin : ∀ a, off a + S1x1x1x64x256.size a ≤ S1x1x16x64x256.size a)
    (p : Fin 16) (h : off = ![0, 0, p.val, 0, 0]) (e : Fin 64) (c : Fin 256) :
    View.readAt (Elt Ideal) arg5.view (Rect.unit (s := S1x1x16x64x256) off S1x1x1x64x256.size hin).toLoadRect (harg5.unread x2) (ix5 0 0 0 e c)
      = x2 (ix5 0 0 p e c) := by
  subst h
  rw [harg5.readAt_unread]
  refine congrArg x2 (funext fun a => Fin.ext ?_)
  fin_cases a <;> simp [LoadRect.idx, ix5]

/-- A load of one value tile of the staged values. -/
theorem v_read (arg6 : Memref sig .tc .vmem S1x1x16x256x64 .bf16) (harg6 : arg6.IsWhole)
    (x3 : Vec Ideal S1x1x16x256x64 .bf16) (off : Fin 5 → ℕ) (hin : ∀ a, off a + S1x1x1x256x64.size a ≤ S1x1x16x256x64.size a)
    (p : Fin 16) (h : off = ![0, 0, p.val, 0, 0]) (e : Fin 64) (c : Fin 256) :
    View.readAt (Elt Ideal) arg6.view (Rect.unit (s := S1x1x16x256x64) off S1x1x1x256x64.size hin).toLoadRect (harg6.unread x3) (ix5 0 0 0 c e)
      = x3 (ix5 0 0 p c e) := by
  subst h
  rw [harg6.readAt_unread]
  refine congrArg x3 (funext fun a => Fin.ext ?_)
  fin_cases a <;> simp [LoadRect.idx, ix5]

/-- The key tile at the query's own place. -/
theorem kt_own (x2 : Vec Ideal S1x1x16x64x256 .bf16) (off : Fin 5 → ℕ)
    (hin : ∀ a, off a + S1x1x1x64x256.size a ≤ S1x1x16x64x256.size a) (p : Fin 16) (h : off = ![0, 0, p.val, 0, 0])
    (e : Fin 64) (c : Fin 256) :
    View.ld x2 (Rect.unit (s := S1x1x16x64x256) off ![1, 1, 1, 64, 256] hin) (ix5 0 0 0 e c) = x2 (ix5 0 0 p e c) := by
  subst h
  pointwise []

/-- The value tile at the query's own place. -/
theorem v_own (x3 : Vec Ideal S1x1x16x256x64 .bf16) (off : Fin 5 → ℕ)
    (hin : ∀ a, off a + S1x1x1x256x64.size a ≤ S1x1x16x256x64.size a) (p : Fin 16) (h : off = ![0, 0, p.val, 0, 0])
    (e : Fin 64) (c : Fin 256) :
    View.ld x3 (Rect.unit (s := S1x1x16x256x64) off ![1, 1, 1, 256, 64] hin) (ix5 0 0 0 c e) = x3 (ix5 0 0 p c e) := by
  subst h
  pointwise []

/-- One head: the state after the main loop holds the weighted values of the whole row. -/
theorem head_at (q4 : Vec Ideal S1x1x256x64 .bf16) (b : Elt Ideal .f32) (x2 : Vec Ideal S1x1x16x64x256 .bf16)
    (x3 : Vec Ideal S1x1x16x256x64 .bf16) (u : Vec Ideal S256x256 .bf16) (hu : IsTri u) (z : ℕ → ℝ) (val : ℕ → EReal)
    (n : Fin 16) (r : Fin 256) (d : Fin 64) (S : ℕ → FVec Ideal S256x1 .f32 × FVec Ideal S256x64 .f32)
    (N : ℕ) (hN : N = n.val)
    (hz : ∀ (p : Fin 16) (c : Fin 256), (∑ e : Fin 64, q4 (ix4 0 0 r e) * x2 (ix5 0 0 p e c)) + b = (z (256 * p + c) : EReal))
    (hv : ∀ (p : Fin 16) (c : Fin 256), x3 (ix5 0 0 p c d) = val (256 * p + c))
    (kt : Vec Ideal S1x1x1x64x256 .bf16) (v : Vec Ideal S1x1x1x256x64 .bf16)
    (hkt : ∀ (e : Fin 64) (c : Fin 256), kt (ix5 0 0 0 e c) = x2 (ix5 0 0 n e c))
    (hvt : ∀ (e : Fin 64) (c : Fin 256), v (ix5 0 0 0 c e) = x3 (ix5 0 0 n c e))
    (h0 : S 0 = (k0_pay53 (F := Ideal) k0_pay42 k0_pay44 (k0_pay50 q4 b kt),
      k0_pay52 (F := Ideal) u k0_pay42 k0_pay44 k0_pay45 (k0_pay47 v) (k0_pay49 q4 b kt) (k0_pay50 q4 b kt)))
    (hS : ∀ k : ℕ, k < n.val → ∃ (kt : Vec Ideal S1x1x1x64x256 .bf16) (v : Vec Ideal S1x1x1x256x64 .bf16),
      S (k + 1) = (k0_pay6 (F := Ideal) (k0_pay43 q4) b (S k).1 kt, k0_pay5 (F := Ideal) u (k0_pay43 q4) b (S k).1 (S k).2 kt v)
      ∧ (∀ (e : Fin 64) (c : Fin 256), kt (ix5 0 0 0 e c) = x2 (ix5 0 0 (back n k) e c))
      ∧ (∀ (e : Fin 64) (c : Fin 256), v (ix5 0 0 0 c e) = x3 (ix5 0 0 (back n k) c e))) :
    (S N).2 (ix2 r d) = Stick.acc z val (256 * n + r) 0 := by
  subst hN
  have hq : ∀ e : Fin 64, k0_pay43 (F := Ideal) q4 (ix2 r e) = q4 (ix4 0 0 r e) := fun e => by pointwise [k0_pay43]
  have hz' : ∀ (p : Fin 16) (c : Fin 256),
      (∑ e : Fin 64, k0_pay43 (F := Ideal) q4 (ix2 r e) * x2 (ix5 0 0 p e c)) + b = (z (256 * p + c) : EReal) := by
    intro p c
    rw [← hz]
    simp only [hq]
  have hown : ∀ c : Fin 256, k0_pay2 (F := Ideal) (k0_pay43 q4) b kt (ix2 r c) = (z (256 * n + c) : EReal) := by
    intro c
    rw [logit_at, ← hz']
    simp only [hkt]
  have h := (loop_inv (k0_pay43 q4) b x2 x3 u hu z val n r d S hz' hv
    (by rw [h0]; exact own_carry q4 b kt z n r hown)
    (by rw [h0]; exact own_acc q4 b kt v u hu z val n r d hown (fun c => by rw [hvt, hv])) hS n.val le_rfl).2
  rw [h, Nat.sub_self, Nat.mul_zero]

/-- Where the query's own tile lies in the staged keys and values. -/
theorem own_index : ∀ n : Fin 16, (Scalar.indexCast (BitVec.ofNat 32 n.val)).toNat = n.val := by decide +kernel

/-- Where a head's bias lies among the sixteen. -/
theorem bias_index : ∀ (g : Fin 4) (j : Fin 4),
    (Scalar.indexCast (Scalar.addi (Scalar.muli (BitVec.ofNat 32 g.val) 4#32) (BitVec.ofNat 32 j.val))).toNat = 4 * g.val + j.val := by
  decide +kernel

/-- What a grid point leaves in its block: head `j`, row `r`, lane `d`. -/
theorem out_at (c : Dev nD) (i : grid0.Coords) (arg3 : Memref sig .tc .smem S16 .f32) (harg3 : arg3.IsWhole)
    (arg4 : Memref sig .tc .vmem S1x4x256x64 .bf16) (harg4 : arg4.IsWhole)
    (arg5 : Memref sig .tc .vmem S1x1x16x64x256 .bf16) (harg5 : arg5.IsWhole)
    (arg6 : Memref sig .tc .vmem S1x1x16x256x64 .bf16) (harg6 : arg6.IsWhole)
    (arg7 : Memref sig .tc .vmem S256x256 .bf16) (harg7 : arg7.IsWhole)
    (arg8 : Memref sig .tc .vmem S1x256x256 .bf16) (harg8 : arg8.IsWhole)
    (x0 : Vec Ideal S16 .f32) (x1 : Vec Ideal S1x4x256x64 .bf16) (x2 : Vec Ideal S1x1x16x64x256 .bf16)
    (x3 : Vec Ideal S1x1x16x256x64 .bf16) (x4 : Vec Ideal S256x256 .bf16) (hu : IsTri x4) (z : ℕ → ℝ) (val : ℕ → EReal)
    (g : Fin 4) (n : Fin 16) (hg' : (i 1).val = g.val) (hn' : (i 2).val = n.val) (j : Fin 4) (r : Fin 256) (d : Fin 64)
    (hz : ∀ (p : Fin 16) (s : Fin 256), (∑ e : Fin 64, x1 (ix4 0 j r e) * x2 (ix5 0 0 p e s))
      + x0 (ix1 ⟨4 * g.val + j.val, by omega⟩) = (z (256 * p + s) : EReal))
    (hv : ∀ (p : Fin 16) (s : Fin 256), x3 (ix5 0 0 p s d) = val (256 * p + s)) :
    out0_A_5 (F := Ideal) c i arg3 harg3 arg4 harg4 arg5 harg5 arg6 harg6 arg7 harg7 arg8 harg8 x0 x1 x2 x3 x4
      (ix3 0 r ⟨64 * j.val + d.val, by omega⟩) = Stick.acc z val (256 * n + r) 0 := by
  frame_out
  simp only [rest_trips _ (show (i 2).val < 16 from (i 2).isLt), main_trips _ (show (i 2).val < 16 from (i 2).isLt),
    st_k0_t2_zero, st_k0_t4_zero, st_k0_t6_zero, st_k0_t8_zero]
  have own : ![0, 0, (Scalar.indexCast (BitVec.ofNat 32 (i 2).val)).toNat, 0, 0] = ![0, 0, n.val, 0, 0] := by
    rw [hn', own_index]
  have tile : ∀ k : ℕ, k < n.val → ![0, 0, (Scalar.indexCast (Scalar.subi (Scalar.subi (BitVec.ofNat 32 (i 2).val) 1#32)
      (Scf.iv 0#32 1#32 k))).toNat, 0, 0] = ![0, 0, (back n k).val, 0, 0] := by
    intro k hk
    have hk' : k < 16 := by omega
    rw [hn', tile_index n ⟨k, hk'⟩ hk]
    rfl
  have lt : ∀ k : ℕ, k < n.val → k < Scf.trips 0#32 (Scalar.addi 0#32 (Scalar.muli (Scalar.divsi (Scalar.subi
      (BitVec.ofNat 32 (i 2).val) 0#32) 1#32) 1#32)) 1#32 := by
    intro k hk
    rw [main_trips _ (i 2).isLt, hn']
    exact hk
  have bias : ∀ (j' : Fin 4) (h : _), x0 (ix1 ⟨k0_off1 i (BitVec.ofNat 32 j'.val) 0, h⟩) = x0 (ix1 ⟨4 * g.val + j'.val, by omega⟩) := by
    intro j' h
    refine congrArg x0 (congrArg ix1 (Fin.ext ?_))
    show (Scalar.indexCast (Scalar.addi (Scalar.muli (BitVec.ofNat 32 (i 1).val) 4#32) (BitVec.ofNat 32 j'.val))).toNat = _
    rw [hg', bias_index]
  pointwise [k0_pay1]
  fin_cases j
  · rw [dif_pos (by simp)]
    simp only [show ∀ h, x0 (ix1 ⟨k0_off1 i 0#32 0, h⟩) = x0 (ix1 ⟨4 * g.val + 0, by omega⟩) from fun h => bias 0 h]
    refine (congrArg _ (congrArg (ix2 r) (Fin.ext (by simp <;> omega) : _ = d))).trans ?_
    refine head_at (View.ld x1 (Rect.unit (s := S1x4x256x64) ![0, 0, 0, 0] ![1, 1, 256, 64] inb_S1x4x256x64_S1x1x256x64_0_0_0_0))
      (x0 (ix1 ⟨4 * g.val + 0, by omega⟩)) x2 x3 x4 hu z val n r d _ _ hn' (fun p s => ?_) hv
      (View.ld x2 (Rect.unit (s := S1x1x16x64x256) (k0_off2 i) ![1, 1, 1, 64, 256] (k0_off2_inb i)))
      (View.ld x3 (Rect.unit (s := S1x1x16x256x64) (k0_off3 i) ![1, 1, 1, 256, 64] (k0_off3_inb i)))
      (kt_own x2 _ _ n own) (v_own x3 _ _ n own) ?_ (fun k hk =>
        ⟨View.readAt (Elt Ideal) arg5.view (Rect.unit (s := S1x1x16x64x256) (k0_off4 i ⟨k, lt k hk⟩) S1x1x1x64x256.size
            (k0_off4_inb i ⟨k, lt k hk⟩)).toLoadRect (harg5.unread x2),
          View.readAt (Elt Ideal) arg6.view (Rect.unit (s := S1x1x16x256x64) (k0_off5 i ⟨k, lt k hk⟩) S1x1x1x256x64.size
            (k0_off5_inb i ⟨k, lt k hk⟩)).toLoadRect (harg6.unread x3), ?_,
          kt_read arg5 harg5 x2 _ _ _ (tile k hk), v_read arg6 harg6 x3 _ _ _ (tile k hk)⟩)
    · refine Eq.trans ?_ (hz p s)
      pointwise []
    · rw [st_k0_t1_zero]
    · rw [show k + 1 = (⟨k, lt k hk⟩ : Fin (k0_t1_loop i).trips).val + 1 from rfl, st_k0_t1_succ]
      unfold tripR_k0_t1 trip_k0_t1
      dsimp only
      unfold trip_k0_t1.sl.r trip_k0_t1.sl.r_1
      rfl
  · rw [dif_neg (by simp), dif_pos (by simp)]
    simp only [show ∀ h, x0 (ix1 ⟨k0_off1 i 1#32 0, h⟩) = x0 (ix1 ⟨4 * g.val + 1, by omega⟩) from fun h => bias 1 h]
    refine (congrArg _ (congrArg (ix2 r) (Fin.ext (by simp <;> omega) : _ = d))).trans ?_
    refine head_at (View.ld x1 (Rect.unit (s := S1x4x256x64) ![0, 1, 0, 0] ![1, 1, 256, 64] inb_S1x4x256x64_S1x1x256x64_0_1_0_0))
      (x0 (ix1 ⟨4 * g.val + 1, by omega⟩)) x2 x3 x4 hu z val n r d _ _ hn' (fun p s => ?_) hv
      (View.ld x2 (Rect.unit (s := S1x1x16x64x256) (k0_off2 i) ![1, 1, 1, 64, 256] (k0_off2_inb i)))
      (View.ld x3 (Rect.unit (s := S1x1x16x256x64) (k0_off3 i) ![1, 1, 1, 256, 64] (k0_off3_inb i)))
      (kt_own x2 _ _ n own) (v_own x3 _ _ n own) ?_ (fun k hk =>
        ⟨View.readAt (Elt Ideal) arg5.view (Rect.unit (s := S1x1x16x64x256) (k0_off8 i ⟨k, lt k hk⟩) S1x1x1x64x256.size
            (k0_off8_inb i ⟨k, lt k hk⟩)).toLoadRect (harg5.unread x2),
          View.readAt (Elt Ideal) arg6.view (Rect.unit (s := S1x1x16x256x64) (k0_off9 i ⟨k, lt k hk⟩) S1x1x1x256x64.size
            (k0_off9_inb i ⟨k, lt k hk⟩)).toLoadRect (harg6.unread x3), ?_,
          kt_read arg5 harg5 x2 _ _ _ (tile k hk), v_read arg6 harg6 x3 _ _ _ (tile k hk)⟩)
    · refine Eq.trans ?_ (hz p s)
      pointwise []
    · rw [st_k0_t3_zero]
      rfl
    · rw [show k + 1 = (⟨k, lt k hk⟩ : Fin (k0_t3_loop i).trips).val + 1 from rfl, st_k0_t3_succ]
      unfold tripR_k0_t3 trip_k0_t3
      dsimp only
      unfold trip_k0_t3.sl.r trip_k0_t3.sl.r_1
      rfl
  · rw [dif_neg (by simp; omega), dif_neg (by simp; omega), dif_pos (by simp; omega)]
    simp only [show ∀ h, x0 (ix1 ⟨k0_off1 i 2#32 0, h⟩) = x0 (ix1 ⟨4 * g.val + 2, by omega⟩) from fun h => bias 2 h]
    refine (congrArg _ (congrArg (ix2 r) (Fin.ext (by simp <;> omega) : _ = d))).trans ?_
    refine head_at (View.ld x1 (Rect.unit (s := S1x4x256x64) ![0, 2, 0, 0] ![1, 1, 256, 64] inb_S1x4x256x64_S1x1x256x64_0_2_0_0))
      (x0 (ix1 ⟨4 * g.val + 2, by omega⟩)) x2 x3 x4 hu z val n r d _ _ hn' (fun p s => ?_) hv
      (View.ld x2 (Rect.unit (s := S1x1x16x64x256) (k0_off2 i) ![1, 1, 1, 64, 256] (k0_off2_inb i)))
      (View.ld x3 (Rect.unit (s := S1x1x16x256x64) (k0_off3 i) ![1, 1, 1, 256, 64] (k0_off3_inb i)))
      (kt_own x2 _ _ n own) (v_own x3 _ _ n own) ?_ (fun k hk =>
        ⟨View.readAt (Elt Ideal) arg5.view (Rect.unit (s := S1x1x16x64x256) (k0_off12 i ⟨k, lt k hk⟩) S1x1x1x64x256.size
            (k0_off12_inb i ⟨k, lt k hk⟩)).toLoadRect (harg5.unread x2),
          View.readAt (Elt Ideal) arg6.view (Rect.unit (s := S1x1x16x256x64) (k0_off13 i ⟨k, lt k hk⟩) S1x1x1x256x64.size
            (k0_off13_inb i ⟨k, lt k hk⟩)).toLoadRect (harg6.unread x3), ?_,
          kt_read arg5 harg5 x2 _ _ _ (tile k hk), v_read arg6 harg6 x3 _ _ _ (tile k hk)⟩)
    · refine Eq.trans ?_ (hz p s)
      pointwise []
    · rw [st_k0_t5_zero]
      rfl
    · rw [show k + 1 = (⟨k, lt k hk⟩ : Fin (k0_t5_loop i).trips).val + 1 from rfl, st_k0_t5_succ]
      unfold tripR_k0_t5 trip_k0_t5
      dsimp only
      unfold trip_k0_t5.sl.r trip_k0_t5.sl.r_1
      rfl
  · rw [dif_neg (by simp; omega), dif_neg (by simp; omega), dif_neg (by simp; omega)]
    simp only [show ∀ h, x0 (ix1 ⟨k0_off1 i 3#32 0, h⟩) = x0 (ix1 ⟨4 * g.val + 3, by omega⟩) from fun h => bias 3 h]
    refine (congrArg _ (congrArg (ix2 r) (Fin.ext (by simp <;> omega) : _ = d))).trans ?_
    refine head_at (View.ld x1 (Rect.unit (s := S1x4x256x64) ![0, 3, 0, 0] ![1, 1, 256, 64] inb_S1x4x256x64_S1x1x256x64_0_3_0_0))
      (x0 (ix1 ⟨4 * g.val + 3, by omega⟩)) x2 x3 x4 hu z val n r d _ _ hn' (fun p s => ?_) hv
      (View.ld x2 (Rect.unit (s := S1x1x16x64x256) (k0_off2 i) ![1, 1, 1, 64, 256] (k0_off2_inb i)))
      (View.ld x3 (Rect.unit (s := S1x1x16x256x64) (k0_off3 i) ![1, 1, 1, 256, 64] (k0_off3_inb i)))
      (kt_own x2 _ _ n own) (v_own x3 _ _ n own) ?_ (fun k hk =>
        ⟨View.readAt (Elt Ideal) arg5.view (Rect.unit (s := S1x1x16x64x256) (k0_off16 i ⟨k, lt k hk⟩) S1x1x1x64x256.size
            (k0_off16_inb i ⟨k, lt k hk⟩)).toLoadRect (harg5.unread x2),
          View.readAt (Elt Ideal) arg6.view (Rect.unit (s := S1x1x16x256x64) (k0_off17 i ⟨k, lt k hk⟩) S1x1x1x256x64.size
            (k0_off17_inb i ⟨k, lt k hk⟩)).toLoadRect (harg6.unread x3), ?_,
          kt_read arg5 harg5 x2 _ _ _ (tile k hk), v_read arg6 harg6 x3 _ _ _ (tile k hk)⟩)
    · refine Eq.trans ?_ (hz p s)
      pointwise []
    · rw [st_k0_t7_zero]
      rfl
    · rw [show k + 1 = (⟨k, lt k hk⟩ : Fin (k0_t7_loop i).trips).val + 1 from rfl, st_k0_t7_succ]
      unfold tripR_k0_t7 trip_k0_t7
      dsimp only
      unfold trip_k0_t7.sl.r trip_k0_t7.sl.r_1
      rfl

end Cert.Attn
-- ==== Proof.AttnValue.lean ====
/-
  The attention kernel's blocks at a grid point, read from the arguments and the host constant.
-/
module

public import proofs.«01_k».proof.Proof.Gen.AttnIdeal.Value
public import proofs.«01_k».proof.Proof.AttnBlock
public import Idealize.ShloMosaic.Lib.Pipeline.ValueKit

@[expose] public section

set_option maxRecDepth 16384

noncomputable section

namespace Cert.Attn

open Idealize.ShloMosaic Idealize.ShloMosaic.TcCoe Idealize.SL.Sem Cert.AttnIdeal Cert.AttnIdeal.Gen
open Idealize.ShloMosaic.Pipeline (Dat)

variable (m : (ℓ : Loc nD τ sig) → Buf (Elt Ideal) ℓ) (c : Dev nD)

/-- The block each window holds at a grid point: batch, head group and query tile. -/
theorem idx : ∀ t : Fin cfg0.N, win0_0.index t = ![0]
    ∧ win0_1.index t = ![(grid0.coords t 0).val, (grid0.coords t 1).val, (grid0.coords t 2).val, 0]
    ∧ win0_2.index t = ![(grid0.coords t 0).val, (grid0.coords t 1).val, 0, 0, 0]
    ∧ win0_3.index t = ![(grid0.coords t 0).val, (grid0.coords t 1).val, 0, 0, 0]
    ∧ win0_4.index t = ![0, 0]
    ∧ win0_5.index t = ![(grid0.coords t 0).val, (grid0.coords t 2).val, (grid0.coords t 1).val] :=
  (by decide +kernel : ∀ t : Fin grid0.N, _)

/-- The queries' block, from the query argument. -/
theorem q_block (t : Fin cfg0.N) (b : Fin 8) (g : Fin 4) (n : Fin 16) (hb : (grid0.coords t 0).val = b.val)
    (hg : (grid0.coords t 1).val = g.val) (hn : (grid0.coords t 2).val = n.val) (j : Fin 4) (r : Fin 256) (e : Fin 64) :
    iblk m c 1 t (ix4 0 j r e) = m ((c : Thread nD τ).loc main_arg0)
      (ix2 ⟨b.val * 4096 + (256 * n.val + r.val), by omega⟩ ⟨g.val * 256 + j.val * 64 + e.val, by omega⟩) := by
  blk_simp [iblk, idx t]
  entry_read
  pointwise []
  blk_ext [idx t]

/-- The keys' block, from the key argument. -/
theorem k_block (t : Fin cfg0.N) (b : Fin 8) (g : Fin 4) (hb : (grid0.coords t 0).val = b.val)
    (hg : (grid0.coords t 1).val = g.val) (p : Fin 16) (e : Fin 64) (s : Fin 256) :
    iblk m c 2 t (ix5 0 0 p e s) = m ((c : Thread nD τ).loc main_arg1)
      (ix2 ⟨b.val * 4096 + (256 * p.val + s.val), by omega⟩ ⟨g.val * 64 + e.val, by omega⟩) := by
  blk_simp [iblk, idx t]
  entry_read
  pointwise []
  blk_ext [idx t]

/-- The values' block, from the value argument. -/
theorem v_block (t : Fin cfg0.N) (b : Fin 8) (g : Fin 4) (hb : (grid0.coords t 0).val = b.val)
    (hg : (grid0.coords t 1).val = g.val) (p : Fin 16) (s : Fin 256) (d : Fin 64) :
    iblk m c 3 t (ix5 0 0 p s d) = m ((c : Thread nD τ).loc main_arg2)
      (ix2 ⟨b.val * 4096 + (256 * p.val + s.val), by omega⟩ ⟨g.val * 64 + d.val, by omega⟩) := by
  blk_simp [iblk, idx t]
  entry_read
  pointwise []
  blk_ext [idx t]

/-- The biases, from the bias argument. -/
theorem bias_block (t : Fin cfg0.N) (h : Fin 16) :
    iblk m c 0 t (ix1 h) = m ((c : Thread nD τ).loc main_arg3) (ix2 0 h) := by
  blk_simp [iblk, idx t]
  entry_read
  pointwise []
  blk_ext [idx t]

/-- The triangle of ones, from the host constant. -/
theorem tri_block (t : Fin cfg0.N) (k l : Fin 256) :
    iblk m c 4 t (ix2 k l) = (FloatOps.ofBits .bf16 (lit0t (256 * k.val + l.val)) : Ideal .bf16) := by
  blk_simp [iblk, idx t]
  entry_read
  have e : ((View.whole main_cst).slice (win0_4.rect t)).emb (ix2 k l) = (ix2 k l : S256x256.Idx) := by blk_ext [idx t]
  rw [e]
  refine congrArg (FloatOps.ofBits (F := Ideal) FTy.bf16) ?_
  have hl : ∀ f : Fin 65536, ∀ n : Nat, f.val = n → lit0 f = lit0t n := by
    intro f n h
    subst h
    rfl
  refine hl _ _ ?_
  refine (Shape.rowMajor_val_two _).trans ?_
  simp [ix2]
  omega

end Cert.Attn
-- ==== Proof.AttnRef.lean ====
/-
  The attention reference at one query row: its weights are `Stick.weight` of the row's logits, and its result is the
  sum of the values by those weights.
-/
module

public import proofs.«01_k».proof.Proof.Gen.AttnRefIdeal.Read
public import proofs.«01_k».proof.Proof.StickMath
public import Idealize.ShloMosaic.Lib.WordCmp

@[expose] public section

set_option maxRecDepth 16384

noncomputable section

namespace Cert.Attn.Ref

open Idealize.ShloMosaic Cert.AttnRefIdeal Cert.AttnRefIdeal.Gen Cert.AttnRefIdeal.Read

variable (x0 : (⟨S32768x1024, .bf16⟩ : BufTy).Contents (Elt Ideal))
  (x1 x2 : (⟨S32768x256, .f32⟩ : BufTy).Contents (Elt Ideal)) (x3 : (⟨S1x16, .f32⟩ : BufTy).Contents (Elt Ideal))

/-- A logit: the key's product with the query, and the head's bias. -/
theorem logit_at (b : Fin 8) (g j : Fin 4) (t s : Fin 4096) :
    val_main_v10 (F := Ideal) x0 x1 x3 (ix5 b g j t s)
      = (∑ e : Fin 64, x1 (ix2 ⟨b.val * 4096 + s.val, by omega⟩ ⟨g.val * 64 + e.val, by omega⟩)
          * x0 (ix2 ⟨b.val * 4096 + t.val, by omega⟩ ⟨g.val * 256 + j.val * 64 + e.val, by omega⟩))
        + x3 (ix2 0 ⟨g.val * 4 + j.val, by omega⟩) := by
  pointwise [val_main_v10, val_main_v9, val_main_v8, val_main_v7, val_main_v6, val_main_v5, val_main_v4, val_main_v3,
    val_main_v2, val_main_v1, val_main_v0]

/-- The mask: is key `s` before query `t`? -/
theorem mask_at (t s : Fin 4096) : val_main_v17 (F := Ideal) (ix2 t s) = BitVec.ofBool (decide (s.val < t.val)) := by
  pointwise [val_main_v17, val_main_v16, val_main_v15, val_main_v14, val_main_v13, val_main_v12, val_main_v11]
  rw [WordCmp.cmpi_slt_ofNat (by have := s.isLt; omega) (by have := t.isLt; omega)]

/-- The printed logarithm of a sigmoid, at a real number `y`: `-(max (-y) 0 + soft y)`. -/
theorem log_sigmoid_coe (y : ℝ) :
    (-if -(y : EReal) ≠ -(y : EReal) then -(y : EReal)
      else max (-(y : EReal)) 0 + Ideal.log1p (Ideal.exp (-FloatOps.absf (F := Ideal) (φ := .f32) (-(y : EReal)))))
      = (Stick.logB y : EReal) := by
  rw [if_neg (by simp), ← EReal.coe_neg, Ideal.absf_def, Stick.max_neg, ← EReal.coe_neg, Stick.log1p_exp, ← EReal.coe_zero,
    ← EReal.coe_strictMono.monotone.map_max, ← EReal.coe_add, ← EReal.coe_neg]
  congr 1
  rw [Stick.logB, Stick.soft, Stick.soft, abs_neg, neg_add, ← min_neg_neg, neg_neg, neg_zero, sub_eq_add_neg]

/-- `log1m` is `logB` of the opposite. -/
theorem logB_neg (y : ℝ) : Stick.logB (-y) = Stick.log1m y := by
  rw [Stick.logB, Stick.log1m, Stick.soft, Stick.soft, abs_neg]

/-- A sum over a window of 4096 places from `s` on, cut at the end of the row. -/
theorem sum_tail (f : ℕ → ℝ) (s : ℕ) :
    ∑ k : Fin 4096, (if s + k.val < 4096 then f (s + k.val) else 0) = ∑ m ∈ Finset.Ico s 4096, f m := by
  rw [Fin.sum_univ_eq_sum_range (fun k => if s + k < 4096 then f (s + k) else 0) 4096, ← Finset.sum_filter,
    Finset.sum_Ico_eq_sum_range]
  refine Finset.sum_congr ?_ fun _ _ => rfl
  ext k
  simp only [Finset.mem_filter, Finset.mem_range]
  omega

/-- The window's index by its one long axis. -/
def windowEquiv : Fin 4096 ≃ (⟨5, ![1, 1, 1, 1, 4096]⟩ : Shape).Idx where
  toFun k := ix5 0 0 0 0 k
  invFun y := y 4
  left_inv _ := rfl
  right_inv y := funext fun a => by
    match a with
    | 0 => exact (Fin.fin_one_eq_zero (y 0)).symm
    | 1 => exact (Fin.fin_one_eq_zero (y 1)).symm
    | 2 => exact (Fin.fin_one_eq_zero (y 2)).symm
    | 3 => exact (Fin.fin_one_eq_zero (y 3)).symm
    | 4 => rfl

/-- The window's index, its long coordinate `k`. -/
theorem windowEquiv_apply (k : Fin 4096) : windowEquiv k = ix5 0 0 0 0 k := rfl

/-- Adding in order is the sum. -/
theorem foldl_add {ι : Type} (l : List ι) (g : ι → EReal) (v : EReal) : l.foldl (fun r n => r + g n) v = v + (l.map g).sum := by
  induction l generalizing v with
  | nil => simp
  | cons a l ih => simp [ih, add_assoc]

/-- The reversed cumulative sum: at key `s`, the sum of the row from `s` on. -/
theorem tail_at (x : FVec Ideal S8x4x4x4096x4096 .f32) (init : FVec Ideal S_ .f32) (hi : init ix0 = 0)
    (b : Fin 8) (g j : Fin 4) (t s : Fin 4096) (f : ℕ → ℝ) (hf : ∀ m : Fin 4096, x (ix5 b g j t m) = (f m.val : EReal)) (h) (hu) :
    Host.reduceWindowAdd (F := Ideal) ![1, 1, 1, 1, 4096] ![1, 1, 1, 1, 1] ![0, 0, 0, 0, 0] ![0, 0, 0, 0, 4095] x init
        (t := S8x4x4x4096x4096) h hu (ix5 b g j t s)
      = ((∑ m ∈ Finset.Ico s.val 4096, f m : ℝ) : EReal) := by
  rw [Host.reduceWindowAdd, Ideal.hostReduceWindowAdd_def]
  unfold Ideal.hostReduceWindowAdd Host.reduceWindow
  dsimp only
  have hv : init (Shape.Idx.first hu) = 0 := (congrArg init (funext fun a => a.elim0)).trans hi
  rw [foldl_add, ← Fin.sum_univ_def]
  simp only [hv]
  rw [zero_add, ← sum_tail, ← Stick.coe_sum]
  refine (Fintype.sum_equiv (windowEquiv.trans (Shape.rowMajor _)) _ _ fun k => ?_).symm
  simp only [Equiv.trans_apply, Equiv.symm_apply_apply]
  by_cases hk : s.val + k.val < 4096
  · rw [if_pos hk, dif_pos]
    · refine (hf ⟨s.val + k.val, hk⟩).symm.trans (congrArg x (funext fun a => Fin.ext ?_))
      fin_cases a <;> simp [windowEquiv_apply, ix5]
    · intro a
      fin_cases a <;> simp [windowEquiv_apply, ix5] <;> omega
  · rw [if_neg hk, dif_neg, EReal.coe_zero]
    intro h'
    have := (h' 4).2
    simp [windowEquiv_apply, ix5] at this
    omega

section Row

variable (z : ℕ → ℝ) (b : Fin 8) (g j : Fin 4) (t : Fin 4096)

/-- The logarithm of the probability to stop, of a real logit. -/
theorem logB_at (s : Fin 4096) (hz : val_main_v10 (F := Ideal) x0 x1 x3 (ix5 b g j t s) = (z s : EReal)) :
    val_main_v18 (F := Ideal) x0 x1 x3 (ix5 b g j t s) = (Stick.logB (z s) : EReal) := by
  pointwise [val_main_v18, val_main_call0_v1, val_main_call0_call0_v11, val_main_call0_call0_v10,
    val_main_call0_call0_v9, val_main_call0_call0_v8, val_main_call0_call0_v7, val_main_call0_call0_v6,
    val_main_call0_call0_v5, val_main_call0_call0_v4, val_main_call0_call0_v3, val_main_call0_call0_v2,
    val_main_call0_call0_v1, val_main_call0_call0_v0, val_main_call0_call0_cst, val_main_call0_v0]
  rw [hz, log_sigmoid_coe]

/-- The masked logarithm of the probability to go on. -/
theorem pass_at (s : Fin 4096) (hz : val_main_v10 (F := Ideal) x0 x1 x3 (ix5 b g j t s) = (z s : EReal)) :
    val_main_v21 (F := Ideal) x0 x1 x3 (ix5 b g j t s) = (Stick.pass z t s : EReal) := by
  have hs : val_main_v20 (F := Ideal) x0 x1 x3 (ix5 b g j t s) = (Stick.log1m (z s) : EReal) := by
    pointwise [val_main_v20, val_main_call1_v1, val_main_call1_call0_v11, val_main_call1_call0_v10,
      val_main_call1_call0_v9, val_main_call1_call0_v8, val_main_call1_call0_v7, val_main_call1_call0_v6,
      val_main_call1_call0_v5, val_main_call1_call0_v4, val_main_call1_call0_v3, val_main_call1_call0_v2,
      val_main_call1_call0_v1, val_main_call1_call0_v0, val_main_call1_call0_cst, val_main_call1_v0, val_main_v19]
    rw [hz, ← EReal.coe_neg, log_sigmoid_coe, logB_neg]
  pointwise [val_main_v21, val_main_call2_v0, val_main_call2_v1, val_main_call2_v2, val_main_cst, id]
  rw [hs, mask_at, Stick.pass]
  by_cases h : s.val < t.val <;> simp [h, Scalar.select]

variable (hz : ∀ s : Fin 4096, val_main_v10 (F := Ideal) x0 x1 x3 (ix5 b g j t s) = (z s : EReal))
include hz

/-- The reference's weight of a key. -/
theorem weight_at (s : Fin 4096) :
    val_main_v26 (F := Ideal) x0 x1 x3 (ix5 b g j t s) = (Stick.weight z t s : EReal) := by
  have hsum : val_main_v22 (F := Ideal) x0 x1 x3 (ix5 b g j t s) = ((∑ m ∈ Finset.Ico s.val 4096, Stick.pass z t m : ℝ) : EReal) :=
    tail_at _ _ (by pointwise [val_main_call3_v0, val_main_call3_cst]) b g j t s _
      (fun m => pass_at x0 x1 x3 z b g j t m (hz m)) _ _
  pointwise [val_main_v26, val_main_v25, val_main_v24, val_main_v23, val_main_call4_v0, val_main_call4_v1,
    val_main_call4_v2, val_main_cst_0, id]
  rw [hsum, mask_at, logB_at x0 x1 x3 z b g j t s (hz s), pass_at x0 x1 x3 z b g j t s (hz s), ← EReal.coe_sub,
    ← EReal.coe_add, Ideal.exp_coe, Stick.weight,
    ← Finset.add_sum_Ioo_eq_sum_Ico s.isLt, add_sub_cancel_left]
  by_cases h : s.val < t.val <;> simp [h, Scalar.select]

/-- The reference's result at a query row, head `4 g + j` and lane `d`. -/
theorem out_at (val : ℕ → EReal) (d : Fin 64)
    (hv : ∀ s : Fin 4096, x2 (ix2 ⟨b.val * 4096 + s.val, by omega⟩ ⟨g.val * 64 + d.val, by omega⟩) = val s) :
    val_main_v30 (F := Ideal) x0 x1 x2 x3 (ix3 b t ⟨256 * g.val + (64 * j.val + d.val), by omega⟩) = Stick.acc z val t 0 := by
  pointwise [val_main_v30, val_main_v29, val_main_v28, val_main_v27, val_main_v3]
  rw [Stick.acc, ← Finset.range_eq_Ico, ← Fin.sum_univ_eq_sum_range (fun s => (Stick.weight z t s : EReal) * val s) 4096]
  refine Finset.sum_congr rfl fun s _ => ?_
  rw [mul_comm, ← weight_at x0 x1 x3 z b g j t hz s, ← hv s]

end Row

end Cert.Attn.Ref
-- ==== Proof.DigitTree.lean ====
/-
  Tables of 65536 words stored as a tree on the base-128 digits of the index.
-/
module

public import Mathlib.Tactic.IntervalCases

@[expose] public section

set_option maxRecDepth 16384

namespace Cert.DigitTree

/-- The word `f x` of a digit `x`, one arm for each digit. -/
def pick (x : Nat) (f : Nat → BitVec 16) : BitVec 16 := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

/-- At a digit, the arm is the function's value. -/
theorem pick_eq (x : Nat) (hx : x < 128) (f : Nat → BitVec 16) : pick x f = f x := by
  interval_cases x <;> rfl

end Cert.DigitTree
-- ==== Proof.AttnTri.lean ====
/-
  The attention kernel's triangle of ones: the host constant holds 1 where the column is before the row, else 0.
-/
module

public import proofs.«01_k».proof.AttnIdeal
public import proofs.«01_k».proof.Proof.DigitTree
public import Idealize.ShloMosaic.Lib.Tactic

@[expose] public section

set_option maxRecDepth 16384

namespace Cert.Attn

open Idealize.ShloMosaic Cert.AttnIdeal Cert.DigitTree

/-- Word `j` of half row `k` of the triangle: the pattern of 1 below the diagonal, of 0 elsewhere. -/
def tri (k j : Nat) : BitVec 16 := bif Nat.blt (j + 128 * (k % 2)) (k / 2) then 0x3F80#16 else 0x0000#16

/-- The constant's first 64 rows are the triangle's. -/
theorem quarter_0 (i : Nat) : lit0t1_0 i = pick (i / 128 % 128) fun k => pick (i % 128) (tri k) := by
  sl_kernel_rfl

/-- The constant's next 64 rows are the triangle's. -/
theorem quarter_1 (i : Nat) : lit0t1_1 i = pick (i / 128 % 128) fun k => pick (i % 128) (tri (128 + k)) := by
  sl_kernel_rfl

/-- The constant's rows 128 to 191 are the triangle's. -/
theorem quarter_2 (i : Nat) : lit0t1_2 i = pick (i / 128 % 128) fun k => pick (i % 128) (tri (256 + k)) := by
  sl_kernel_rfl

/-- The constant's last 64 rows are the triangle's. -/
theorem quarter_3 (i : Nat) : lit0t1_3 i = pick (i / 128 % 128) fun k => pick (i % 128) (tri (384 + k)) := by
  sl_kernel_rfl

/-- The constant's entry in row `r`, column `c`: the pattern of 1 below the diagonal, of 0 elsewhere. -/
theorem lit_at (r c : Nat) (hr : r < 256) (hc : c < 256) :
    lit0t (256 * r + c) = if c < r then 0x3F80#16 else 0x0000#16 := by
  have leaf : ∀ q, (256 * r + c) / 16384 = q →
      (pick ((256 * r + c) / 128 % 128) fun k => pick ((256 * r + c) % 128) (tri (128 * q + k)))
        = if c < r then 0x3F80#16 else 0x0000#16 := by
    intro q hq
    rw [pick_eq _ (Nat.mod_lt _ (by omega)), pick_eq _ (Nat.mod_lt _ (by omega)), tri]
    have e1 : (256 * r + c) % 128 + 128 * ((128 * q + (256 * r + c) / 128 % 128) % 2) = c := by omega
    have e2 : (128 * q + (256 * r + c) / 128 % 128) / 2 = r := by omega
    rw [e1, e2]
    by_cases h : c < r
    · rw [if_pos h, (Eq.mpr Nat.blt_eq h : Nat.blt c r = true), cond_true]
    · rw [if_neg h, (Bool.eq_false_iff.2 fun e => h (Eq.mp Nat.blt_eq e) : Nat.blt c r = false), cond_false]
  rcases (by omega : (256 * r + c) / 16384 = 0 ∨ (256 * r + c) / 16384 = 1 ∨ (256 * r + c) / 16384 = 2
    ∨ (256 * r + c) / 16384 = 3) with h | h | h | h
  · have := leaf 0 h
    rw [show lit0t (256 * r + c) = lit0t1_0 (256 * r + c) by unfold lit0t; rw [h]; rfl, quarter_0]
    simpa using this
  · have := leaf 1 h
    rw [show lit0t (256 * r + c) = lit0t1_1 (256 * r + c) by unfold lit0t; rw [h]; rfl, quarter_1]
    simpa using this
  · have := leaf 2 h
    rw [show lit0t (256 * r + c) = lit0t1_2 (256 * r + c) by unfold lit0t; rw [h]; rfl, quarter_2]
    simpa using this
  · have := leaf 3 h
    rw [show lit0t (256 * r + c) = lit0t1_3 (256 * r + c) by unfold lit0t; rw [h]; rfl, quarter_3]
    simpa using this

end Cert.Attn
-- ==== Proof.AttnFinal.lean ====
/-
  The attention kernel's result array: what the grid points write is the reference's result.
-/
module

public import proofs.«01_k».proof.Proof.AttnValue
public import proofs.«01_k».proof.Proof.AttnRef
public import proofs.«01_k».proof.Proof.AttnTri
public import Idealize.ShloMosaic.Lib.Pipeline.Covers

@[expose] public section

set_option maxRecDepth 16384

noncomputable section

namespace Cert.Attn

open Idealize.ShloMosaic Idealize.ShloMosaic.TcCoe Idealize.SL.Sem Cert.AttnIdeal Cert.AttnIdeal.Gen
open Idealize.ShloMosaic.Pipeline (Dat)
open Cert.AttnRefIdeal.Read (val_main_v30 val_main_v10)

variable (m : (ℓ : Loc nD τ sig) → Buf (Elt Ideal) ℓ) (c : Dev nD)

/-- Every block of the result array is some grid point's. -/
theorem covers5 : (cfg0.win 5).Covers :=
  (cfg0.win 5).covers_of_indexMap_surj rfl (by decide) fun β => by
    refine ⟨fun | ⟨0, _⟩ => ⟨(β 0).val, (β 0).isLt⟩ | ⟨1, _⟩ => ⟨(β 2).val, (β 2).isLt⟩ | ⟨2, _⟩ => ⟨(β 1).val, (β 1).isLt⟩,
      fun | ⟨0, _⟩ => ?_ | ⟨1, _⟩ => ?_ | ⟨2, _⟩ => ?_⟩
    · exact (BitVec.toNat_ofNat _ _).trans (Nat.mod_eq_of_lt (lt_of_lt_of_le (β 0).isLt (by decide)))
    · exact (BitVec.toNat_ofNat _ _).trans (Nat.mod_eq_of_lt (lt_of_lt_of_le (β 1).isLt (by decide)))
    · exact (BitVec.toNat_ofNat _ _).trans (Nat.mod_eq_of_lt (lt_of_lt_of_le (β 2).isLt (by decide)))

/-- The kernel's fifth operand is the triangle of ones. -/
theorem tri_isTri (t : Fin cfg0.N) : IsTri (iblk m c 4 t) := by
  intro k l
  rw [tri_block, lit_at _ _ k.isLt l.isLt]
  by_cases h : l.val < k.val
  · rw [if_pos h, if_pos h]
    exact Ideal.ofBits_one_bf16
  · rw [if_neg h, if_neg h]
    exact Ideal.ofBits_zero_bf16

variable (x0 : FVec Ideal S32768x1024 .bf16) (x1 x2 : FVec Ideal S32768x256 .f32) (x3 : FVec Ideal S1x16 .f32)

/-- A sum of products of real numbers, and a real number more, as an extended real. -/
theorem real_logit (q k : Fin 64 → EReal) (bias : EReal) (q' k' : Fin 64 → ℝ) (b' : ℝ) (hq : ∀ e, q e = (q' e : EReal))
    (hk : ∀ e, k e = (k' e : EReal)) (hb : bias = (b' : EReal)) :
    (∑ e, k e * q e) + bias = ((∑ e, k' e * q' e + b' : ℝ) : EReal) := by
  rw [hb, EReal.coe_add, ← Stick.coe_sum]
  refine congrArg (· + _) (Finset.sum_congr rfl fun e _ => ?_)
  rw [hq, hk, EReal.coe_mul]

/-- What a grid point leaves in its block is the reference's result there. -/
theorem point (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (hq : ∀ i, ∃ r : ℝ, x0 i = (r : EReal)) (hk : ∀ i, ∃ r : ℝ, x1 i = (r : EReal))
    (hb : ∀ i, ∃ r : ℝ, x3 i = (r : EReal))
    (t : Fin cfg0.N) (b : Fin 8) (g : Fin 4) (n : Fin 16) (eb : (grid0.coords t 0).val = b.val)
    (eg : (grid0.coords t 1).val = g.val) (en : (grid0.coords t 2).val = n.val) (r : Fin 256) (j : Fin 4) (d : Fin 64) :
    outsAt0 m c t (ix3 0 r ⟨64 * j.val + d.val, by omega⟩)
      = val_main_v30 (F := Ideal) x0 x1 x2 x3
          (ix3 b ⟨256 * n.val + r.val, by omega⟩ ⟨256 * g.val + (64 * j.val + d.val), by omega⟩) := by
  choose q' hq' using hq
  choose k' hk' using hk
  choose b' hb' using hb
  have key : ∀ s : Fin 4096,
      (∑ e : Fin 64, x1 (ix2 ⟨b.val * 4096 + s.val, by omega⟩ ⟨g.val * 64 + e.val, by omega⟩)
          * x0 (ix2 ⟨b.val * 4096 + (256 * n.val + r.val), by omega⟩ ⟨g.val * 256 + j.val * 64 + e.val, by omega⟩))
        + x3 (ix2 0 ⟨g.val * 4 + j.val, by omega⟩) = ((∑ e : Fin 64, k' (ix2 ⟨b.val * 4096 + s.val, by omega⟩ ⟨g.val * 64 + e.val, by omega⟩)
          * q' (ix2 ⟨b.val * 4096 + (256 * n.val + r.val), by omega⟩ ⟨g.val * 256 + j.val * 64 + e.val, by omega⟩)
        + b' (ix2 0 ⟨g.val * 4 + j.val, by omega⟩) : ℝ) : EReal) :=
    fun s => real_logit _ _ _ _ _ _ (fun e => hq' _) (fun e => hk' _) (hb' _)
  obtain ⟨z, hz⟩ : ∃ z : ℕ → ℝ, ∀ s : Fin 4096,
      (∑ e : Fin 64, x1 (ix2 ⟨b.val * 4096 + s.val, by omega⟩ ⟨g.val * 64 + e.val, by omega⟩)
          * x0 (ix2 ⟨b.val * 4096 + (256 * n.val + r.val), by omega⟩ ⟨g.val * 256 + j.val * 64 + e.val, by omega⟩))
        + x3 (ix2 0 ⟨g.val * 4 + j.val, by omega⟩) = (z s.val : EReal) :=
    ⟨fun s => if h : s < 4096 then (∑ e : Fin 64, k' (ix2 ⟨b.val * 4096 + s, by omega⟩ ⟨g.val * 64 + e.val, by omega⟩)
          * q' (ix2 ⟨b.val * 4096 + (256 * n.val + r.val), by omega⟩ ⟨g.val * 256 + j.val * 64 + e.val, by omega⟩)
        + b' (ix2 0 ⟨g.val * 4 + j.val, by omega⟩)) else 0, fun s => by rw [key s]; simp only [dif_pos s.isLt]⟩
  obtain ⟨val, hv⟩ : ∃ val : ℕ → EReal, ∀ s : Fin 4096,
      x2 (ix2 ⟨b.val * 4096 + s.val, by omega⟩ ⟨g.val * 64 + d.val, by omega⟩) = val s.val :=
    ⟨fun s => if h : s < 4096 then x2 (ix2 ⟨b.val * 4096 + s, by omega⟩ ⟨g.val * 64 + d.val, by omega⟩) else 0,
      fun s => by simp only [dif_pos s.isLt]⟩
  refine Eq.trans (out_at c _ _ _ _ _ _ _ _ _ _ _ _ _ (iblk m c 0 t) (iblk m c 1 t) (iblk m c 2 t) (iblk m c 3 t)
    (iblk m c 4 t) (tri_isTri m c t) z val g n eg en j r d (fun p s => ?_) (fun p s => ?_))
    (Ref.out_at x0 x1 x2 x3 z b g j ⟨256 * n.val + r.val, by omega⟩ (fun s => ?_) val d hv).symm
  · rw [bias_block, h3, ← hz ⟨256 * p.val + s.val, by omega⟩]
    refine congrArg₂ (· + ·) (Finset.sum_congr rfl fun e _ => ?_) (congrArg x3 (congrArg (ix2 0) (Fin.ext ?_)))
    · rw [q_block m c t b g n eb eg en, k_block m c t b g eb eg, h0, h1, mul_comm]
    · simp only []
      omega
  · rw [v_block m c t b g eb eg, h2, ← hv ⟨256 * p.val + s.val, by omega⟩]
  · rw [Ref.logit_at]
    exact hz s

/-- The result array after the run is the reference's result of the four arguments, when the queries, keys and
    biases are real. -/
theorem final (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (hq : ∀ i, ∃ r : ℝ, x0 i = (r : EReal)) (hk : ∀ i, ∃ r : ℝ, x1 i = (r : EReal))
    (hb : ∀ i, ∃ r : ℝ, x3 i = (r : EReal)) :
    (dats m 0 c).arrAt 5 cfg0.N = val_main_v30 (F := Ideal) x0 x1 x2 x3 := by
  refine (dats m 0 c).arrAt_eq_of_covers 5 _ covers5 fun t hf y => ?_
  blk_simp
  rw [after0_5]
  have hcol : (y 2).val < 256 := (y 2).isLt
  have hy : y = (ix3 0 ⟨(y 1).val, (y 1).isLt⟩ ⟨64 * ((y 2).val / 64) + (y 2).val % 64, by omega⟩ : S1x256x256.Idx) := by
    blk_ext []
  rw [hy]
  refine (point m c x0 x1 x2 x3 h0 h1 h2 h3 hq hk hb t ⟨_, (grid0.coords t 0).isLt⟩ ⟨_, (grid0.coords t 1).isLt⟩
    ⟨_, (grid0.coords t 2).isLt⟩ rfl rfl rfl ⟨(y 1).val, (y 1).isLt⟩ ⟨(y 2).val / 64, by omega⟩
    ⟨(y 2).val % 64, by omega⟩).trans ?_
  refine congrArg (val_main_v30 (F := Ideal) x0 x1 x2 x3) ?_
  blk_ext [idx t]

end Cert.Attn
-- ==== Proof.AttnPre.lean ====
/-
  What the precondition `finite_attn` says: every query, key and bias is a real number.
-/
module

public import proofs.«01_k».proof.Proof.Gen.Pre_finite_attn
public import Idealize.ShloMosaic.Lib.Pointwise
public import Idealize.ShloMosaic.Lib.ReduceAll

@[expose] public section

set_option maxRecDepth 16384

noncomputable section

namespace Cert.Attn.Pre

open Idealize.ShloMosaic Cert.Pre_finite_attn

/-- An extended real whose absolute value compares below the pattern of +∞ is a real number. -/
theorem real_of_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by
    simp [Ideal.ofBits, Ideal.ieee]
  rw [htop] at h
  have hlt : max x (-x) < ⊤ := by
    by_contra hc
    simp [Ideal.cmp, hc] at h
  rw [max_lt_iff] at hlt
  induction x using EReal.rec with
  | bot => simp at hlt
  | top => simp at hlt
  | coe r => exact ⟨r, rfl⟩

variable (x0 : FVec Ideal S32768x1024 .bf16) (x1 x2 : FVec Ideal S32768x256 .f32) (x3 : FVec Ideal S1x16 .f32)

/-- Under the precondition the queries, the keys and the biases are real numbers. -/
theorem reals (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have h' := congrFun h ix0
  dsimp only [fn] at h'
  obtain ⟨h01, h3⟩ := IntOp.andi_eq_one.1 h'
  obtain ⟨h0, h1⟩ := IntOp.andi_eq_one.1 h01
  haveI : Subsingleton S_.Idx := ⟨fun a b => funext fun k => k.elim0⟩
  refine ⟨fun i => ?_, fun i => ?_, fun i => ?_⟩
  · exact real_of_lt _ (Host.reduce_andi_all _ _ _ _ _ h0 i)
  · exact real_of_lt _ (Host.reduce_andi_all _ _ _ _ _ h1 i)
  · exact real_of_lt _ (Host.reduce_andi_all _ _ _ _ _ h3 i)

end Cert.Attn.Pre
-- ==== Proof.AttnClaim.lean ====
/-
  The attention's value claim: over the reals the kernel and the reference return the same array.
-/
module

public import proofs.«01_k».proof.Defs
public import proofs.«01_k».proof.Proof.AttnFinal
public import proofs.«01_k».proof.Proof.AttnPre
public import proofs.«01_k».proof.Proof.Gen.AttnRefIdeal.Run

@[expose] public section

noncomputable section

namespace Cert.Attn

open Idealize.ShloMosaic Idealize.ShloMosaic.TcCoe Idealize.SL.Sem

/-- From real queries, keys and biases both programs run and return equal arrays. -/
theorem algebraic : Cert.algebraic_AttnIdeal_AttnRefIdeal_pre_finite_attn := by
  intro m g m' g' hpre hagree
  refine ⟨fun c => (AttnIdeal.Gen.dats m 0 c).arrAt 5 AttnIdeal.cfg0.N, AttnIdeal.Value.run_blocks m g, ?_⟩
  refine (θ_run _ _ _).mono (fun r h c => ⟨((h c).1.trans (AttnRefIdeal.Read.val_main_v30_eq m' c)).trans ?_, (h c).2⟩)
    (AttnRefIdeal.Value.run m' g')
  obtain ⟨e0, e1, e2, e3⟩ := hagree c
  rw [e0, e1, e2, e3]
  obtain ⟨hq, hk, hb⟩ := Pre.reals _ _ _ _ (hpre c)
  exact (final m c _ _ _ _ rfl rfl rfl rfl hq hk hb).symm

end Cert.Attn
-- ==== Proof.ConvRows.lean ====
/-
  The convolution's new state: the last three of the eight rows the kernel keeps are the reference's rows.
-/
module

public import proofs.«01_k».proof.Proof.Gen.ConvIdeal
public import proofs.«01_k».proof.Proof.Gen.ConvRefIdeal.Read
public import Idealize.ShloMosaic.Lib.Pointwise

@[expose] public section

set_option maxRecDepth 16384

noncomputable section

namespace Cert.Conv

open Idealize.ShloMosaic Idealize.ShloMosaic.TcCoe Idealize.SL.Sem Cert.ConvIdeal Cert.ConvIdeal.Gen
open Cert.ConvRefIdeal.Read

/-- The last eight rows of each prompt, in the convolution's columns of the projection. -/
def rows (x : (⟨S32768x8832, .f32⟩ : BufTy).Contents (Elt Ideal)) : (⟨S8x8x3072, .f32⟩ : BufTy).Contents (Elt Ideal) :=
  fun i => x (ix2 ⟨(i 0).val * 4096 + (4088 + (i 1).val), by
      have h0 : (i 0).val < 8 := (i 0).isLt
      have h1 : (i 1).val < 8 := (i 1).isLt
      omega⟩ ⟨3072 + (i 2).val, by have h2 : (i 2).val < 3072 := (i 2).isLt; omega⟩)

/-- The last three of them are what the reference keeps of its rows, after the zeros it puts before them. -/
theorem kept (x : (⟨S32768x8832, .f32⟩ : BufTy).Contents (Elt Ideal)) :
    broadcastInDim S1x8x3x3072 ![1, 2, 3] bcast_S8x3x3072_S1x8x3x3072_1_2_3
      (extractStridedSlice S8x3x3072 ![0, 5, 0] (rows x) slices_S8x8x3072_S8x3x3072_0_5_0) = val_main_v5 (F := Ideal) x := by
  funext y
  idx_vars y
  pointwise [rows, val_main_v5, val_main_v4, val_main_v3, val_main_v2, val_main_cst, val_main_v1, val_main_v0]
  rw [dif_neg (by omega)]
  exact congrArg x (congrArg (fun a => ix2 a _) (Fin.ext (by dsimp only; omega)))

end Cert.Conv
-- ==== Proof.ConvFinal.lean ====
/-
  The convolution's new state: the rows the kernel keeps of each prompt are the last eight of its convolution columns.
-/
module

public import proofs.«01_k».proof.Proof.Gen.ConvIdeal.Frame
public import proofs.«01_k».proof.Proof.ConvRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Conv

open Idealize.ShloMosaic Idealize.ShloMosaic.TcCoe Idealize.SL.Sem Cert.ConvIdeal Cert.ConvIdeal.Gen
open Idealize.ShloMosaic.Pipeline (Dat)

variable (m : (ℓ : Loc nD τ sig) → Buf (Elt Ideal) ℓ) (c : Dev nD)

/-- The block each of the two windows holds at a grid point. -/
theorem idx : ∀ t : Fin cfg0.N, win0_0.index t = ![t.val, 1] ∧ win0_12.index t = ![t.val / 32, 0, 0] :=
  (by decide +kernel : ∀ t : Fin grid0.N, _)

/-- The convolution columns of the projection. -/
theorem xbc_block (t : Fin cfg0.N) (r : Fin 128) (k : Fin 3072) :
    X0_0 m c t (ix2 r k) = m ((c : Thread nD τ).loc main_arg0)
      (ix2 ⟨t.val * 128 + r.val, by have : t.val < 256 := t.isLt; omega⟩ ⟨3072 + k.val, by omega⟩) := by
  unfold X0_0 Pipeline.Window.fill
  rw [dif_pos (moved0_0 t _)]
  have h0 : V m c main_arg0 = m ((c : Thread nD τ).loc main_arg0) := V_main_arg0 m c
  blk_ext [iblk, h0, idx t]

/-- A load of the scratch's last eight rows, after a store of all but its first eight, reads the stored block's last eight. -/
theorem load_last (v : View sig .tc .vmem S136x3072 .f32) (w : (⟨S128x3072, .f32⟩ : BufTy).Contents (Elt Ideal)) :
    v.readCov (Val := Elt Ideal) [⟨Rect.unit (s := S136x3072) ![8, 0] ![128, 3072] inb_S136x3072_S128x3072_8_0, w⟩]
      (Rect.unit (s := S136x3072) ![128, 0] ![8, 3072] inb_S136x3072_S8x3072_128_0).toLoadRect
    = fun j : S8x3072.Idx => w (ix2 ⟨120 + (j 0).val, by have h : (j 0).val < 8 := (j 0).isLt; omega⟩ (j 1)) := by
  rw [View.readCov_eq_canon']
  funext j
  refine Eq.trans (congrArg _ ?_) (View.canon_cons_emb (Val := Elt Ideal) (e := .f32)
    (Rect.unit (s := S136x3072) ![8, 0] ![128, 3072] inb_S136x3072_S128x3072_8_0) w []
    (ix2 ⟨120 + (j 0).val, by have h : (j 0).val < 8 := (j 0).isLt; omega⟩ (j 1) : S128x3072.Idx))
  funext a
  apply Fin.ext
  match a with
  | ⟨0, _⟩ => exact (by omega : 128 + 1 * (j 0).val = 8 + 1 * (120 + (j 0).val))
  | ⟨1, _⟩ => rfl

/-- The kernel's array of the last rows after the run. -/
theorem final : (dats m 0 c).arrAt 12 cfg0.N = rows (m ((c : Thread nD τ).loc main_arg0)) := by
  refine (dats m 0 c).arrAt_eq_of_covers 12 _ (by decide +kernel) fun t hf y => ?_
  have ht : t.val % 32 = 31 := (flush0_12 t).mp hf
  blk_simp
  rw [after0_12, outsAt0_B m c t (by omega)]
  dsimp only
  unfold out0_B_12
  frame_out
  rw [load_last]
  idx_vars y
  pointwise [k0_pay4, k0_pay5, rows]
  rw [xbc_block]
  have e0 : win0_12.index t 0 = t.val / 32 := congrFun (idx t).2 0
  have e1 : win0_12.index t 1 = 0 := congrFun (idx t).2 1
  have e2 : win0_12.index t 2 = 0 := congrFun (idx t).2 2
  refine congrArg _ (congrArg₂ ix2 (Fin.ext ?_) (Fin.ext ?_))
  · blk_simp
    dsimp only
    omega
  · blk_simp
    dsimp only
    omega

end Cert.Conv
-- ==== Proof.ConvRun.lean ====
/-
  The convolution's new state: the kernel's result after a run.
-/
module

public import proofs.«01_k».proof.Proof.ConvFinal
public import Idealize.ShloMosaic.Lib.Claim

@[expose] public section

set_option maxRecDepth 16384

noncomputable section

namespace Cert.Conv

open Idealize.ShloMosaic Idealize.ShloMosaic.TcCoe Idealize.SL.Sem Cert.ConvIdeal Cert.ConvIdeal.Gen
open Cert.ConvRefIdeal.Read

variable (m : (ℓ : Loc nD τ sig) → Buf (Elt Ideal) ℓ) (g : Dev nD → PrngReg)

/-- What the run leaves in the result. -/
theorem tail (c : Dev nD) : Pipeline.afterTail₀ cfgs (dats m) 0 (V0 m) [hostOps1] c main_v17
    = val_main_v5 (F := Ideal) (m ((c : Thread nD τ).loc main_arg0)) := by
  unfold Pipeline.afterTail₀ hostOps1
  simp only [List.flatten_cons, List.flatten_nil, List.append_nil, List.cons_append, List.nil_append]
  after_results
  have e := (dats m 0 c).withArrays_arrAt sharedIn0 (V0 m c) (A_eq m c) 12
  refine Eq.trans ?_ (kept _)
  rw [← final m c]
  exact congrArg (fun u => broadcastInDim S1x8x3x3072 ![1, 2, 3] bcast_S8x3x3072_S1x8x3x3072_1_2_3
    (extractStridedSlice S8x3x3072 ![0, 5, 0] u slices_S8x8x3072_S8x3x3072_0_5_0)) e

/-- A run leaves the reference's rows and the arguments as they were. -/
theorem run : θ_run (defs (F := Ideal)) (onTc (τ := τ) (main (F := Ideal))) ⟨m, fun _ => 0, g⟩ (fun r => ∀ c : Dev nD,
      r.2.mem ((c.tc : Thread nD τ).loc main_v17) = val_main_v5 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨((h.1 c).2 main_v17 (Pipeline.mem_restRefs_of main_v17 (by decide) (by decide))).trans (tail m c),
    h.2 c⟩) (θ_run_and (run_main (F := Ideal) m g) (unchanged (F := Ideal) m g))

end Cert.Conv
-- ==== Proof.ConvClaim.lean ====
/-
  The value claim of the convolution's new state: over the extended reals the kernel and the reference return the same
  rows.
-/
module

public import proofs.«01_k».proof.Defs
public import proofs.«01_k».proof.Proof.ConvRun
public import proofs.«01_k».proof.Proof.Gen.ConvRefIdeal.Run

@[expose] public section

noncomputable section

namespace Cert.Conv

open Idealize.ShloMosaic Idealize.ShloMosaic.TcCoe Idealize.SL.Sem

/-- From equal arguments both programs run and return equal rows. -/
theorem algebraic : Cert.algebraic_ConvIdeal_ConvRefIdeal := by
  intro m g m' g' _ hagree
  refine ⟨fun c => ConvRefIdeal.Read.val_main_v5 (F := Ideal) (m ((c.tc : Thread _ _).loc ConvIdeal.main_arg0)), run m g, ?_⟩
  refine (θ_run _ _ _).mono (fun r h c => ?_) (ConvRefIdeal.Value.run m' g')
  obtain ⟨h0, hargs⟩ := h c
  have e0 := (hagree c).1
  beta_reduce
  rw [← e0]
  exact ⟨h0.trans (ConvRefIdeal.Read.val_main_v5_eq _), hargs⟩

end Cert.Conv
-- ==== Proof.ConvSRows.lean ====
/-
  The convolution's new state of the sample batch: the last three of each sequence's eight rows are the reference's rows.
-/
module

public import proofs.«01_k».proof.Proof.Gen.ConvSIdeal
public import proofs.«01_k».proof.Proof.Gen.ConvSRefIdeal.Read
public import Idealize.ShloMosaic.Lib.Pointwise

@[expose] public section

set_option maxRecDepth 16384

noncomputable section

namespace Cert.ConvS

open Idealize.ShloMosaic Idealize.ShloMosaic.TcCoe Idealize.SL.Sem Cert.ConvSIdeal Cert.ConvSIdeal.Gen
open Cert.ConvSRefIdeal.Read

/-- Each sequence's eight rows, in the convolution's columns of the projection. -/
def rows (x : (⟨S1024x8832, .f32⟩ : BufTy).Contents (Elt Ideal)) : (⟨S128x8x3072, .f32⟩ : BufTy).Contents (Elt Ideal) :=
  fun i => x (ix2 ⟨(i 0).val * 8 + (i 1).val, by
      have h0 : (i 0).val < 128 := (i 0).isLt
      have h1 : (i 1).val < 8 := (i 1).isLt
      omega⟩ ⟨3072 + (i 2).val, by have h2 : (i 2).val < 3072 := (i 2).isLt; omega⟩)

/-- The last three of them are what the reference keeps of its rows, after the old state it puts before them. -/
theorem kept (x : (⟨S1024x8832, .f32⟩ : BufTy).Contents (Elt Ideal)) (s : (⟨S1x128x3x3072, .f32⟩ : BufTy).Contents (Elt Ideal)) :
    broadcastInDim S1x128x3x3072 ![1, 2, 3] bcast_S128x3x3072_S1x128x3x3072_1_2_3
      (extractStridedSlice S128x3x3072 ![0, 5, 0] (rows x) slices_S128x8x3072_S128x3x3072_0_5_0) = val_main_v5 (F := Ideal) x s := by
  funext y
  idx_vars y
  pointwise [rows, val_main_v5, val_main_v4, val_main_v3, val_main_v2, val_main_v1, val_main_v0]
  rw [dif_neg (by omega)]
  exact congrArg x (congrArg (fun a => ix2 a _) (Fin.ext (by dsimp only; omega)))

end Cert.ConvS
-- ==== Proof.ConvSFinal.lean ====
/-
  The convolution's new state of the sample batch: the rows the kernel keeps of each sequence are its eight rows of the
  convolution's columns.
-/
module

public import proofs.«01_k».proof.Proof.Gen.ConvSIdeal.Frame
public import proofs.«01_k».proof.Proof.ConvSRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ConvS

open Idealize.ShloMosaic Idealize.ShloMosaic.TcCoe Idealize.SL.Sem Cert.ConvSIdeal Cert.ConvSIdeal.Gen
open Idealize.ShloMosaic.Pipeline (Dat)

variable (m : (ℓ : Loc nD τ sig) → Buf (Elt Ideal) ℓ) (c : Dev nD)

/-- The block each of the two windows holds at a grid point. -/
theorem idx : ∀ t : Fin cfg0.N, win0_0.index t = ![t.val, 1] ∧ win0_14.index t = ![t.val, 0, 0] :=
  (by decide +kernel : ∀ t : Fin grid0.N, _)

/-- The convolution columns of the projection. -/
theorem xbc_block (t : Fin cfg0.N) (r : Fin 8) (k : Fin 3072) :
    X0_0 m c t (ix2 r k) = m ((c : Thread nD τ).loc main_arg0)
      (ix2 ⟨t.val * 8 + r.val, by have : t.val < 128 := t.isLt; omega⟩ ⟨3072 + k.val, by omega⟩) := by
  unfold X0_0 Pipeline.Window.fill
  rw [dif_pos (moved0_0 t _)]
  have h0 : V m c main_arg0 = m ((c : Thread nD τ).loc main_arg0) := V_main_arg0 m c
  blk_ext [iblk, h0, idx t]

/-- A load of the scratch's middle eight rows, after a store to them, reads what was stored. -/
theorem load_stored (v : View sig .tc .vmem S136x3072 .f32) (w : (⟨S8x3072, .f32⟩ : BufTy).Contents (Elt Ideal))
    (L : List (View.Piece (Elt Ideal) S136x3072 .f32)) :
    v.readCov (Val := Elt Ideal) (⟨Rect.unit (s := S136x3072) ![8, 0] ![8, 3072] inb_S136x3072_S8x3072_8_0, w⟩ :: L)
      (Rect.unit (s := S136x3072) ![8, 0] ![8, 3072] inb_S136x3072_S8x3072_8_0).toLoadRect = w := by
  rw [View.readCov_eq_canon']
  funext j
  exact View.canon_cons_emb (Val := Elt Ideal) (e := .f32)
    (Rect.unit (s := S136x3072) ![8, 0] ![8, 3072] inb_S136x3072_S8x3072_8_0) w L j

/-- The kernel's array of the kept rows after the run. -/
theorem final : (dats m 0 c).arrAt 14 cfg0.N = rows (m ((c : Thread nD τ).loc main_arg0)) := by
  refine (dats m 0 c).arrAt_eq_of_covers 14 _ (by decide +kernel) fun t hf y => ?_
  blk_simp
  rw [after0_14]
  unfold outsAt0
  dsimp only
  unfold out0_A_14
  frame_out
  rw [load_stored]
  idx_vars y
  pointwise [k0_pay5, k0_pay6, rows]
  rw [xbc_block]
  have e0 : win0_14.index t 0 = t.val := congrFun (idx t).2 0
  have e1 : win0_14.index t 1 = 0 := congrFun (idx t).2 1
  have e2 : win0_14.index t 2 = 0 := congrFun (idx t).2 2
  refine congrArg _ (congrArg₂ ix2 (Fin.ext ?_) (Fin.ext ?_))
  · blk_simp
    dsimp only
    omega
  · blk_simp
    dsimp only
    omega

end Cert.ConvS
-- ==== Proof.ConvSRun.lean ====
/-
  The convolution's new state of the sample batch: the kernel's result after a run.
-/
module

public import proofs.«01_k».proof.Proof.ConvSFinal
public import Idealize.ShloMosaic.Lib.Claim

@[expose] public section

set_option maxRecDepth 16384

noncomputable section

namespace Cert.ConvS

open Idealize.ShloMosaic Idealize.ShloMosaic.TcCoe Idealize.SL.Sem Cert.ConvSIdeal Cert.ConvSIdeal.Gen
open Cert.ConvSRefIdeal.Read

variable (m : (ℓ : Loc nD τ sig) → Buf (Elt Ideal) ℓ) (g : Dev nD → PrngReg)

/-- What the run leaves in the result. -/
theorem tail (c : Dev nD) : Pipeline.afterTail₀ cfgs (dats m) 0 (V0 m) [hostOps1] c main_v20
    = val_main_v5 (F := Ideal) (m ((c : Thread nD τ).loc main_arg0)) (m ((c : Thread nD τ).loc main_arg1)) := by
  unfold Pipeline.afterTail₀ hostOps1
  simp only [List.flatten_cons, List.flatten_nil, List.append_nil, List.cons_append, List.nil_append]
  after_results
  have e := (dats m 0 c).withArrays_arrAt sharedIn0 (V0 m c) (A_eq m c) 14
  refine Eq.trans ?_ (kept _ _)
  rw [← final m c]
  exact congrArg (fun u => broadcastInDim S1x128x3x3072 ![1, 2, 3] bcast_S128x3x3072_S1x128x3x3072_1_2_3
    (extractStridedSlice S128x3x3072 ![0, 5, 0] u slices_S128x8x3072_S128x3x3072_0_5_0)) e

/-- A run leaves the reference's rows and the arguments as they were. -/
theorem run : θ_run (defs (F := Ideal)) (onTc (τ := τ) (main (F := Ideal))) ⟨m, fun _ => 0, g⟩ (fun r => ∀ c : Dev nD,
      r.2.mem ((c.tc : Thread nD τ).loc main_v20) = val_main_v5 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => ⟨((h.1 c).2 main_v20 (Pipeline.mem_restRefs_of main_v20 (by decide) (by decide))).trans (tail m c),
    h.2 c⟩) (θ_run_and (run_main (F := Ideal) m g) (unchanged (F := Ideal) m g))

end Cert.ConvS
-- ==== Proof.ConvSClaim.lean ====
/-
  The value claim of the sample batch's new convolution state: over the extended reals the kernel and the reference return the same
  rows.
-/
module

public import proofs.«01_k».proof.Defs
public import proofs.«01_k».proof.Proof.ConvSRun
public import proofs.«01_k».proof.Proof.Gen.ConvSRefIdeal.Run

@[expose] public section

noncomputable section

namespace Cert.ConvS

open Idealize.ShloMosaic Idealize.ShloMosaic.TcCoe Idealize.SL.Sem

/-- From equal arguments both programs run and return equal rows. -/
theorem algebraic : Cert.algebraic_ConvSIdeal_ConvSRefIdeal := by
  intro m g m' g' _ hagree
  refine ⟨fun c => ConvSRefIdeal.Read.val_main_v5 (F := Ideal) (m ((c.tc : Thread _ _).loc ConvSIdeal.main_arg0))
    (m ((c.tc : Thread _ _).loc ConvSIdeal.main_arg1)), run m g, ?_⟩
  refine (θ_run _ _ _).mono (fun r h c => ?_) (ConvSRefIdeal.Value.run m' g')
  obtain ⟨h0, hargs⟩ := h c
  obtain ⟨e0, e1, -⟩ := hagree c
  beta_reduce
  rw [← e0, ← e1]
  exact ⟨h0.trans (ConvSRefIdeal.Read.val_main_v5_eq _ _), hargs⟩

end Cert.ConvS
-- ==== Proof.FfnFinal.lean ====
/-
  The feed-forward block: the two halves of the hidden layer, accumulated over two grid points, make the whole sum.
-/
module

public import proofs.«01_k».proof.Proof.Gen.FfnIdeal.Value
public import proofs.«01_k».proof.Proof.Gen.FfnRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ffn

open Idealize.ShloMosaic Idealize.ShloMosaic.TcCoe Idealize.SL.Sem Cert.FfnIdeal Cert.FfnIdeal.Gen
open Idealize.ShloMosaic.Pipeline (Dat)
open Cert.FfnRefIdeal.Read

variable (m : (ℓ : Loc nD τ sig) → Buf (Elt Ideal) ℓ) (c : Dev nD)

/-- The block each window holds at a grid point. -/
theorem idx : ∀ t : Fin cfg0.N, win0_0.index t = ![t.val / 2, 0]
    ∧ win0_1.index t = ![0, 0]
    ∧ win0_2.index t = ![0, t.val % 2]
    ∧ win0_3.index t = ![0, t.val % 2]
    ∧ win0_4.index t = ![t.val % 2, 0]
    ∧ win0_5.index t = ![t.val / 2, 0] :=
  (by decide +kernel : ∀ t : Fin grid0.N, _)

/-- The grid point before an odd one. -/
def prev (t : Fin cfg0.N) : Fin cfg0.N := ⟨t.val - 1, Nat.lt_of_le_of_lt (Nat.sub_le _ _) t.isLt⟩

/-- At the second point of a pair the buffer holds the input and both halves' contributions. -/
theorem held (t : Fin cfg0.N) (ht : t.val % 2 = 1) : (outsAt0 m c t.val t.isLt).1
    = k0_pay2 (F := Ideal) (k0_pay1 (F := Ideal) (iblk m c 0 (prev t)) (iblk m c 1 (prev t))) (iblk m c 2 t) (iblk m c 3 t)
        (k0_pay2 (F := Ideal) (k0_pay1 (F := Ideal) (iblk m c 0 (prev t)) (iblk m c 1 (prev t))) (iblk m c 2 (prev t))
          (iblk m c 3 (prev t)) (iblk m c 0 (prev t)) (iblk m c 4 (prev t)))
        (iblk m c 4 t) := by
  rw [outsAt0_B m c t (by omega)]
  have e := outsAt0_A m c (prev t) (by unfold prev; dsimp only; omega)
  unfold prev at e ⊢
  dsimp only at e
  rw [e]
  frame_out
  rw [read_unread_whole]

/-- The blocks of the point before the second of a pair. -/
theorem idx_prev (t : Fin cfg0.N) (ht : t.val % 2 = 1) : win0_0.index (prev t) = ![t.val / 2, 0]
    ∧ win0_1.index (prev t) = ![0, 0] ∧ win0_2.index (prev t) = ![0, 0] ∧ win0_3.index (prev t) = ![0, 0]
    ∧ win0_4.index (prev t) = ![0, 0] := by
  obtain ⟨h0, h1, h2, h3, h4, -⟩ := idx (prev t)
  have ed : (prev t).val / 2 = t.val / 2 := by unfold prev; dsimp only; omega
  have em : (prev t).val % 2 = 0 := by unfold prev; dsimp only; omega
  rw [ed] at h0
  rw [em] at h2 h3 h4
  exact ⟨h0, h1, h2, h3, h4⟩

/-- The blocks of the second point of a pair. -/
theorem idx_odd (t : Fin cfg0.N) (ht : t.val % 2 = 1) : win0_2.index t = ![0, 1] ∧ win0_3.index t = ![0, 1]
    ∧ win0_4.index t = ![1, 0] ∧ win0_5.index t = ![t.val / 2, 0] := by
  obtain ⟨-, -, h2, h3, h4, h5⟩ := idx t
  rw [ht] at h2 h3 h4
  exact ⟨h2, h3, h4, h5⟩

/-- A sum over the hidden layer is the sum over its first half and over its second. -/
theorem sum_halves (f : Fin 2816 → EReal) : ∑ k, f k
    = ∑ k : Fin 1408, f ⟨k.val, by omega⟩ + ∑ k : Fin 1408, f ⟨1408 + k.val, by omega⟩ :=
  Fin.sum_univ_add (a := 1408) (b := 1408) f

/-- The result array after the run is the reference's. -/
theorem final : (dats m 0 c).arrAt 5 cfg0.N
    = val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val % 2 = 1 := by have := (flush0_5 t).mp hf; omega
  blk_simp
  rw [after0_5, held m c t ht]
  pointwise [k0_pay1, k0_pay2, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_v0, val_main_call0_v1, val_main_call0_cst, val_main_call0_v2, val_main_call0_v3, val_main_call0_cst_0, val_main_call0_v4, val_main_call0_v5, val_main_v16, val_main_v17, val_main_v18, val_main_v19, val_main_v20, val_main_v21, val_main_v22]
  rw [sum_halves, ← add_assoc]
  simp only [zero_sub]
  blk_point [iblk, V, idx_prev t ht, idx_odd t ht]

end Cert.Ffn
-- ==== Proof.FfnClaim.lean ====
/-
  The feed-forward block's value claim: over the extended reals the kernel and the reference return the same array.
-/
module

public import proofs.«01_k».proof.Defs
public import proofs.«01_k».proof.Proof.FfnFinal
public import proofs.«01_k».proof.Proof.Gen.FfnRefIdeal.Run

@[expose] public section

noncomputable section

namespace Cert.Ffn

open Idealize.ShloMosaic Idealize.ShloMosaic.TcCoe Idealize.SL.Sem

/-- From equal arguments both programs run and return equal arrays. -/
theorem algebraic : Cert.algebraic_FfnIdeal_FfnRefIdeal := by
  intro m g m' g' _ hagree
  refine ⟨fun c => (FfnIdeal.Gen.dats m 0 c).arrAt 5 FfnIdeal.cfg0.N, FfnIdeal.Value.run_blocks m g, ?_⟩
  refine (θ_run _ _ _).mono (fun r h c => ⟨((h c).1.trans (FfnRefIdeal.Read.val_main_v22_eq _ _ _ _ _)).trans ?_, (h c).2⟩)
    (FfnRefIdeal.Value.run m' g')
  obtain ⟨e0, e1, e2, e3, e4⟩ := hagree c
  rw [e0, e1, e2, e3, e4]
  exact (final m c).symm

end Cert.Ffn
-- ==== Proof.FfnSFinal.lean ====
/-
  The feed-forward block: the two halves of the hidden layer, accumulated over two grid points, make the whole sum.

  At the sample batch's shape.
-/
module

public import proofs.«01_k».proof.Proof.Gen.FfnSIdeal.Value
public import proofs.«01_k».proof.Proof.Gen.FfnSRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FfnS

open Idealize.ShloMosaic Idealize.ShloMosaic.TcCoe Idealize.SL.Sem Cert.FfnSIdeal Cert.FfnSIdeal.Gen
open Idealize.ShloMosaic.Pipeline (Dat)
open Cert.FfnSRefIdeal.Read

variable (m : (ℓ : Loc nD τ sig) → Buf (Elt Ideal) ℓ) (c : Dev nD)

/-- The block each window holds at a grid point. -/
theorem idx : ∀ t : Fin cfg0.N, win0_0.index t = ![t.val / 2, 0]
    ∧ win0_1.index t = ![0, 0]
    ∧ win0_2.index t = ![0, t.val % 2]
    ∧ win0_3.index t = ![0, t.val % 2]
    ∧ win0_4.index t = ![t.val % 2, 0]
    ∧ win0_5.index t = ![t.val / 2, 0] :=
  (by decide +kernel : ∀ t : Fin grid0.N, _)

/-- The grid point before an odd one. -/
def prev (t : Fin cfg0.N) : Fin cfg0.N := ⟨t.val - 1, Nat.lt_of_le_of_lt (Nat.sub_le _ _) t.isLt⟩

/-- At the second point of a pair the buffer holds the input and both halves' contributions. -/
theorem held (t : Fin cfg0.N) (ht : t.val % 2 = 1) : (outsAt0 m c t.val t.isLt).1
    = k0_pay2 (F := Ideal) (k0_pay1 (F := Ideal) (iblk m c 0 (prev t)) (iblk m c 1 (prev t))) (iblk m c 2 t) (iblk m c 3 t)
        (k0_pay2 (F := Ideal) (k0_pay1 (F := Ideal) (iblk m c 0 (prev t)) (iblk m c 1 (prev t))) (iblk m c 2 (prev t))
          (iblk m c 3 (prev t)) (iblk m c 0 (prev t)) (iblk m c 4 (prev t)))
        (iblk m c 4 t) := by
  rw [outsAt0_B m c t (by omega)]
  have e := outsAt0_A m c (prev t) (by unfold prev; dsimp only; omega)
  unfold prev at e ⊢
  dsimp only at e
  rw [e]
  frame_out
  rw [read_unread_whole]

/-- The blocks of the point before the second of a pair. -/
theorem idx_prev (t : Fin cfg0.N) (ht : t.val % 2 = 1) : win0_0.index (prev t) = ![t.val / 2, 0]
    ∧ win0_1.index (prev t) = ![0, 0] ∧ win0_2.index (prev t) = ![0, 0] ∧ win0_3.index (prev t) = ![0, 0]
    ∧ win0_4.index (prev t) = ![0, 0] := by
  obtain ⟨h0, h1, h2, h3, h4, -⟩ := idx (prev t)
  have ed : (prev t).val / 2 = t.val / 2 := by unfold prev; dsimp only; omega
  have em : (prev t).val % 2 = 0 := by unfold prev; dsimp only; omega
  rw [ed] at h0
  rw [em] at h2 h3 h4
  exact ⟨h0, h1, h2, h3, h4⟩

/-- The blocks of the second point of a pair. -/
theorem idx_odd (t : Fin cfg0.N) (ht : t.val % 2 = 1) : win0_2.index t = ![0, 1] ∧ win0_3.index t = ![0, 1]
    ∧ win0_4.index t = ![1, 0] ∧ win0_5.index t = ![t.val / 2, 0] := by
  obtain ⟨-, -, h2, h3, h4, h5⟩ := idx t
  rw [ht] at h2 h3 h4
  exact ⟨h2, h3, h4, h5⟩

/-- A sum over the hidden layer is the sum over its first half and over its second. -/
theorem sum_halves (f : Fin 2816 → EReal) : ∑ k, f k
    = ∑ k : Fin 1408, f ⟨k.val, by omega⟩ + ∑ k : Fin 1408, f ⟨1408 + k.val, by omega⟩ :=
  Fin.sum_univ_add (a := 1408) (b := 1408) f

/-- The result array after the run is the reference's. -/
theorem final : (dats m 0 c).arrAt 5 cfg0.N
    = val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val % 2 = 1 := by have := (flush0_5 t).mp hf; omega
  blk_simp
  rw [after0_5, held m c t ht]
  pointwise [k0_pay1, k0_pay2, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_v0, val_main_call0_v1, val_main_call0_cst, val_main_call0_v2, val_main_call0_v3, val_main_call0_cst_0, val_main_call0_v4, val_main_call0_v5, val_main_v16, val_main_v17, val_main_v18, val_main_v19, val_main_v20, val_main_v21, val_main_v22]
  rw [sum_halves, ← add_assoc]
  simp only [zero_sub]
  blk_point [iblk, V, idx_prev t ht, idx_odd t ht]

end Cert.FfnS
-- ==== Proof.FfnSClaim.lean ====
/-
  The feed-forward block's value claim: over the extended reals the kernel and the reference return the same array.

  At the sample batch's shape.
-/
module

public import proofs.«01_k».proof.Defs
public import proofs.«01_k».proof.Proof.FfnSFinal
public import proofs.«01_k».proof.Proof.Gen.FfnSRefIdeal.Run

@[expose] public section

noncomputable section

namespace Cert.FfnS

open Idealize.ShloMosaic Idealize.ShloMosaic.TcCoe Idealize.SL.Sem

/-- From equal arguments both programs run and return equal arrays. -/
theorem algebraic : Cert.algebraic_FfnSIdeal_FfnSRefIdeal := by
  intro m g m' g' _ hagree
  refine ⟨fun c => (FfnSIdeal.Gen.dats m 0 c).arrAt 5 FfnSIdeal.cfg0.N, FfnSIdeal.Value.run_blocks m g, ?_⟩
  refine (θ_run _ _ _).mono (fun r h c => ⟨((h c).1.trans (FfnSRefIdeal.Read.val_main_v22_eq _ _ _ _ _)).trans ?_, (h c).2⟩)
    (FfnSRefIdeal.Value.run m' g')
  obtain ⟨e0, e1, e2, e3, e4⟩ := hagree c
  rw [e0, e1, e2, e3, e4]
  exact (final m c).symm

end Cert.FfnS
-- ==== Proof.InProjFinal.lean ====
/-
  The input projection: what the kernel's grid points write is the product of the normalised rows and the weights as
  they are laid out for the kernel.
-/
module

public import proofs.«01_k».proof.Proof.Gen.InProjIdeal.Frame
public import proofs.«01_k».proof.Proof.Gen.InProjRefIdeal.Read
public import Idealize.ShloMosaic.Lib.Pipeline.ValueKit
public import Idealize.ShloMosaic.Lib.Pointwise

@[expose] public section

set_option maxRecDepth 16384

noncomputable section

namespace Cert.InProj

open Idealize.ShloMosaic Idealize.ShloMosaic.TcCoe Idealize.SL.Sem Cert.InProjIdeal Cert.InProjIdeal.Gen
open Idealize.ShloMosaic.Pipeline (Dat)
open Cert.InProjRefIdeal.Read

variable (m : (ℓ : Loc nD τ sig) → Buf (Elt Ideal) ℓ) (c : Dev nD)

/-- The product of the normalised rows and a matrix with the kernel's columns. -/
def full (x : (⟨S32768x1024, .f32⟩ : BufTy).Contents (Elt Ideal)) (g : (⟨S1x1024, .f32⟩ : BufTy).Contents (Elt Ideal))
    (w : (⟨S1024x8832, .bf16⟩ : BufTy).Contents (Elt Ideal)) : (⟨S32768x8832, .f32⟩ : BufTy).Contents (Elt Ideal) :=
  fun y => ∑ k : Fin 1024, val_main_v13 (F := Ideal) x g (ix2 (y 0) k) * w (ix2 k (y 1))

/-- The block each window holds at a grid point. -/
theorem idx : ∀ t : Fin cfg0.N, win0_0.index t = ![(grid0.coords t 1).val, 0]
    ∧ win0_1.index t = ![0, 0]
    ∧ win0_2.index t = ![0, (grid0.coords t 0).val]
    ∧ win0_3.index t = ![(grid0.coords t 1).val, (grid0.coords t 0).val] :=
  (by decide +kernel : ∀ t : Fin grid0.N, _)

/-- The norm's weights reach the kernel as they are. -/
theorem gain : V m c main_v13 = m ((c : Thread nD τ).loc main_arg1) := by
  unfold V V0 hostOps0
  simp only [List.flatten_cons, List.flatten_nil, List.append_nil, List.cons_append, List.nil_append]
  after_results
  funext y
  idx_vars y
  pointwise []
  rw [Subsingleton.elim y0 0]

/-- The kernel's array after the run. -/
theorem final : (dats m 0 c).arrAt 3 cfg0.N = full (m ((c : Thread nD τ).loc main_arg0))
      (m ((c : Thread nD τ).loc main_arg1)) (V m c main_v11) := by
  refine (dats m 0 c).arrAt_eq_of_covers 3 _ (by decide +kernel) fun t hf y => ?_
  blk_simp
  rw [after0_3]
  frame_out
  pointwise [k0_pay1, full, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  blk_point [iblk, idx t, gain m c, V_main_arg0 m c]

end Cert.InProj
-- ==== Proof.InProjWeights.lean ====
/-
  The input projection: where the kernel's layout of the weights puts each section of the model's columns.
-/
module

public import proofs.«01_k».proof.Proof.Gen.InProjIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProj

open Idealize.ShloMosaic Idealize.ShloMosaic.TcCoe Idealize.SL.Sem Cert.InProjIdeal Cert.InProjIdeal.Gen

variable (m : (ℓ : Loc nD τ sig) → Buf (Elt Ideal) ℓ) (c : Dev nD)

/-- The columns of the gate of the state-space mixer. -/
theorem weights_z (k : Fin 1024) (j : Fin 2048) : V m c main_v11 (ix2 k ⟨j.val, by omega⟩)
    = m ((c : Thread nD τ).loc main_arg2) (ix3 0 k ⟨1536 + j.val, by omega⟩) := by
  unfold V V0
  after_reads_at
  repeat rw [dif_neg (by omega)]
  try rw [dif_pos (by omega)]
  after_reads_at

/-- The columns of the queries. -/
theorem weights_q (k : Fin 1024) (j : Fin 1024) : V m c main_v11 (ix2 k ⟨2048 + j.val, by omega⟩)
    = m ((c : Thread nD τ).loc main_arg2) (ix3 0 k ⟨j.val, by omega⟩) := by
  unfold V V0
  after_reads_at
  after_reads_at

/-- The columns of the input of the convolution. -/
theorem weights_xbc (k : Fin 1024) (j : Fin 3072) : V m c main_v11 (ix2 k ⟨3072 + j.val, by omega⟩)
    = m ((c : Thread nD τ).loc main_arg2) (ix3 0 k ⟨3584 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

/-- The columns of the first gate. -/
theorem weights_ga (k : Fin 1024) (j : Fin 1024) : V m c main_v11 (ix2 k ⟨6144 + j.val, by omega⟩)
    = m ((c : Thread nD τ).loc main_arg2) (ix3 0 k ⟨6688 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

/-- The columns of the second gate. -/
theorem weights_gb (k : Fin 1024) (j : Fin 1024) : V m c main_v11 (ix2 k ⟨7168 + j.val, by omega⟩)
    = m ((c : Thread nD τ).loc main_arg2) (ix3 0 k ⟨7712 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

/-- The columns of the keys. -/
theorem weights_k (k : Fin 1024) (j : Fin 256) : V m c main_v11 (ix2 k ⟨8192 + j.val, by omega⟩)
    = m ((c : Thread nD τ).loc main_arg2) (ix3 0 k ⟨1024 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

/-- The columns of the values. -/
theorem weights_v (k : Fin 1024) (j : Fin 256) : V m c main_v11 (ix2 k ⟨8448 + j.val, by omega⟩)
    = m ((c : Thread nD τ).loc main_arg2) (ix3 0 k ⟨1280 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

/-- The columns of the time steps. -/
theorem weights_dt (k : Fin 1024) (j : Fin 32) : V m c main_v11 (ix2 k ⟨8704 + j.val, by omega⟩)
    = m ((c : Thread nD τ).loc main_arg2) (ix3 0 k ⟨6656 + j.val, by omega⟩) := by
  unfold V V0
  after_reads_at
  repeat rw [dif_neg (by omega)]
  try rw [dif_pos (by omega)]
  after_reads_at
  exact congrArg (fun a => m ((c : Thread nD τ).loc main_arg2) (ix3 0 k a)) (Fin.ext (by dsimp only; omega))

end Cert.InProj
-- ==== Proof.InProjPieces.lean ====
/-
  The input projection: each section of the kernel's columns is the model's section of the same name.
-/
module

public import proofs.«01_k».proof.Proof.InProjFinal
public import proofs.«01_k».proof.Proof.InProjWeights
public import Idealize.ShloMosaic.Lib.Pointwise

@[expose] public section

set_option maxRecDepth 16384

noncomputable section

namespace Cert.InProj

open Idealize.ShloMosaic Idealize.ShloMosaic.TcCoe Idealize.SL.Sem Cert.InProjIdeal Cert.InProjIdeal.Gen
open Cert.InProjRefIdeal.Read

variable (m : (ℓ : Loc nD τ sig) → Buf (Elt Ideal) ℓ) (c : Dev nD)

/-- Where a column of the kernel's weights is a column of the model's, so is that column of the product. -/
theorem column (r : Fin 32768) (a : Fin 8832) (b : Fin 8736)
    (h : ∀ k : Fin 1024, V m c main_v11 (ix2 k a) = m ((c : Thread nD τ).loc main_arg2) (ix3 0 k b)) :
    full (m ((c : Thread nD τ).loc main_arg0)) (m ((c : Thread nD τ).loc main_arg1)) (V m c main_v11) (ix2 r a)
      = val_main_v15 (F := Ideal) (m ((c : Thread nD τ).loc main_arg0)) (m ((c : Thread nD τ).loc main_arg1))
        (m ((c : Thread nD τ).loc main_arg2)) (ix2 r b) := by
  pointwise [full, val_main_v15, val_main_v14]
  simp only [h]

/-- The queries. -/
theorem piece_q : extractStridedSlice S32768x1024 ![0, 2048]
      (full (m ((c : Thread nD τ).loc main_arg0)) (m ((c : Thread nD τ).loc main_arg1)) (V m c main_v11))
      slices_S32768x8832_S32768x1024_0_2048
    = val_main_v16 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 1024), y = ix2 r j := ⟨y 0, y 1, eq_ix2 y⟩
  refine (extractStridedSlice_apply ![0, 2048] _ slices_S32768x8832_S32768x1024_0_2048 (ix2 r j) (ix2 r ⟨2048 + j.val, by omega⟩)
    (fun i => match i with | ⟨0, _⟩ => (Nat.zero_add _).symm | ⟨1, _⟩ => rfl)).trans ?_
  refine (column m c r _ ⟨0 + j.val, by omega⟩ fun k => by simpa only [Nat.zero_add] using weights_q m c k j).trans ?_
  rw [val_main_v16_apply]
  exact congrArg _ (funext fun i => match i with | ⟨0, _⟩ => rfl | ⟨1, _⟩ => Fin.ext (Nat.zero_add _))

/-- The keys. -/
theorem piece_k : extractStridedSlice S32768x256 ![0, 8192]
      (full (m ((c : Thread nD τ).loc main_arg0)) (m ((c : Thread nD τ).loc main_arg1)) (V m c main_v11))
      slices_S32768x8832_S32768x256_0_8192
    = val_main_v17 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 256), y = ix2 r j := ⟨y 0, y 1, eq_ix2 y⟩
  refine (extractStridedSlice_apply ![0, 8192] _ slices_S32768x8832_S32768x256_0_8192 (ix2 r j) (ix2 r ⟨8192 + j.val, by omega⟩)
    (fun i => match i with | ⟨0, _⟩ => (Nat.zero_add _).symm | ⟨1, _⟩ => rfl)).trans ?_
  refine (column m c r _ ⟨1024 + j.val, by omega⟩ fun k => weights_k m c k j).trans ?_
  rw [val_main_v17_apply]
  exact congrArg _ (funext fun i => match i with | ⟨0, _⟩ => rfl | ⟨1, _⟩ => rfl)

/-- The values. -/
theorem piece_v : extractStridedSlice S32768x256 ![0, 8448]
      (full (m ((c : Thread nD τ).loc main_arg0)) (m ((c : Thread nD τ).loc main_arg1)) (V m c main_v11))
      slices_S32768x8832_S32768x256_0_8448
    = val_main_v18 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 256), y = ix2 r j := ⟨y 0, y 1, eq_ix2 y⟩
  refine (extractStridedSlice_apply ![0, 8448] _ slices_S32768x8832_S32768x256_0_8448 (ix2 r j) (ix2 r ⟨8448 + j.val, by omega⟩)
    (fun i => match i with | ⟨0, _⟩ => (Nat.zero_add _).symm | ⟨1, _⟩ => rfl)).trans ?_
  refine (column m c r _ ⟨1280 + j.val, by omega⟩ fun k => weights_v m c k j).trans ?_
  rw [val_main_v18_apply]
  exact congrArg _ (funext fun i => match i with | ⟨0, _⟩ => rfl | ⟨1, _⟩ => rfl)

/-- The gate of the state-space mixer. -/
theorem piece_z : extractStridedSlice S32768x2048 ![0, 0]
      (full (m ((c : Thread nD τ).loc main_arg0)) (m ((c : Thread nD τ).loc main_arg1)) (V m c main_v11))
      slices_S32768x8832_S32768x2048_0_0
    = val_main_v19 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 2048), y = ix2 r j := ⟨y 0, y 1, eq_ix2 y⟩
  refine (extractStridedSlice_apply ![0, 0] _ slices_S32768x8832_S32768x2048_0_0 (ix2 r j) (ix2 r ⟨0 + j.val, by omega⟩)
    (fun i => match i with | ⟨0, _⟩ => (Nat.zero_add _).symm | ⟨1, _⟩ => rfl)).trans ?_
  refine (column m c r _ ⟨1536 + j.val, by omega⟩ fun k => by simpa only [Nat.zero_add] using weights_z m c k j).trans ?_
  rw [val_main_v19_apply]
  exact congrArg _ (funext fun i => match i with | ⟨0, _⟩ => rfl | ⟨1, _⟩ => rfl)

/-- The input of the convolution. -/
theorem piece_xbc : extractStridedSlice S32768x3072 ![0, 3072]
      (full (m ((c : Thread nD τ).loc main_arg0)) (m ((c : Thread nD τ).loc main_arg1)) (V m c main_v11))
      slices_S32768x8832_S32768x3072_0_3072
    = val_main_v20 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 3072), y = ix2 r j := ⟨y 0, y 1, eq_ix2 y⟩
  refine (extractStridedSlice_apply ![0, 3072] _ slices_S32768x8832_S32768x3072_0_3072 (ix2 r j) (ix2 r ⟨3072 + j.val, by omega⟩)
    (fun i => match i with | ⟨0, _⟩ => (Nat.zero_add _).symm | ⟨1, _⟩ => rfl)).trans ?_
  refine (column m c r _ ⟨3584 + j.val, by omega⟩ fun k => weights_xbc m c k j).trans ?_
  rw [val_main_v20_apply]
  exact congrArg _ (funext fun i => match i with | ⟨0, _⟩ => rfl | ⟨1, _⟩ => rfl)

/-- The time steps. -/
theorem piece_dt : extractStridedSlice S32768x32 ![0, 8704]
      (full (m ((c : Thread nD τ).loc main_arg0)) (m ((c : Thread nD τ).loc main_arg1)) (V m c main_v11))
      slices_S32768x8832_S32768x32_0_8704
    = val_main_v21 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 32), y = ix2 r j := ⟨y 0, y 1, eq_ix2 y⟩
  refine (extractStridedSlice_apply ![0, 8704] _ slices_S32768x8832_S32768x32_0_8704 (ix2 r j) (ix2 r ⟨8704 + j.val, by omega⟩)
    (fun i => match i with | ⟨0, _⟩ => (Nat.zero_add _).symm | ⟨1, _⟩ => rfl)).trans ?_
  refine (column m c r _ ⟨6656 + j.val, by omega⟩ fun k => weights_dt m c k j).trans ?_
  rw [val_main_v21_apply]
  exact congrArg _ (funext fun i => match i with | ⟨0, _⟩ => rfl | ⟨1, _⟩ => rfl)

/-- The first gate. -/
theorem piece_ga : extractStridedSlice S32768x1024 ![0, 6144]
      (full (m ((c : Thread nD τ).loc main_arg0)) (m ((c : Thread nD τ).loc main_arg1)) (V m c main_v11))
      slices_S32768x8832_S32768x1024_0_6144
    = val_main_v22 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 1024), y = ix2 r j := ⟨y 0, y 1, eq_ix2 y⟩
  refine (extractStridedSlice_apply ![0, 6144] _ slices_S32768x8832_S32768x1024_0_6144 (ix2 r j) (ix2 r ⟨6144 + j.val, by omega⟩)
    (fun i => match i with | ⟨0, _⟩ => (Nat.zero_add _).symm | ⟨1, _⟩ => rfl)).trans ?_
  refine (column m c r _ ⟨6688 + j.val, by omega⟩ fun k => weights_ga m c k j).trans ?_
  rw [val_main_v22_apply]
  exact congrArg _ (funext fun i => match i with | ⟨0, _⟩ => rfl | ⟨1, _⟩ => rfl)

/-- The second gate. -/
theorem piece_gb : extractStridedSlice S32768x1024 ![0, 7168]
      (full (m ((c : Thread nD τ).loc main_arg0)) (m ((c : Thread nD τ).loc main_arg1)) (V m c main_v11))
      slices_S32768x8832_S32768x1024_0_7168
    = val_main_v23 (F := Ideal) (m ((c : Thread nD τ).loc main_arg0)) (m ((c : Thread nD τ).loc main_arg1)) (m ((c : Thread nD τ).loc main_arg2)) := by
  funext y
  obtain ⟨r, j, rfl⟩ : ∃ (r : Fin 32768) (j : Fin 1024), y = ix2 r j := ⟨y 0, y 1, eq_ix2 y⟩
  refine (extractStridedSlice_apply ![0, 7168] _ slices_S32768x8832_S32768x1024_0_7168 (ix2 r j) (ix2 r ⟨7168 + j.val, by omega⟩)
    (fun i => match i with | ⟨0, _⟩ => (Nat.zero_add _).symm | ⟨1, _⟩ => rfl)).trans ?_
  refine (column m c r _ ⟨7712 + j.val, by omega⟩ fun k => weights_gb m c k j).trans ?_
  rw [val_main_v23_apply]
  exact congrArg _ (funext fun i => match i with | ⟨0, _⟩ => rfl | ⟨1, _⟩ => rfl)

end Cert.InProj
-- ==== Proof.InProjRun.lean ====
/-
  The input projection: the kernel's eight arrays after a run.
-/
module

public import proofs.«01_k».proof.Proof.InProjPieces
public import Idealize.ShloMosaic.Lib.Claim
public import Idealize.ShloMosaic.Lib.Pointwise

@[expose] public section

set_option maxRecDepth 16384

noncomputable section

namespace Cert.InProj

open Idealize.ShloMosaic Idealize.ShloMosaic.TcCoe Idealize.SL.Sem Cert.InProjIdeal Cert.InProjIdeal.Gen
open Cert.InProjRefIdeal.Read

variable (m : (ℓ : Loc nD τ sig) → Buf (Elt Ideal) ℓ) (g : Dev nD → PrngReg)

/-- What the run leaves in the first array. -/
theorem tail_q (c : Dev nD) : Pipeline.afterTail₀ cfgs (dats m) 0 (V0 m) [hostOps1] c main_v15
    = val_main_v16 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_q m c)
  rw [← final m c]
  exact congrArg (fun u => extractStridedSlice S32768x1024 ![0, 2048] u slices_S32768x8832_S32768x1024_0_2048) e

/-- What the run leaves in the second array. -/
theorem tail_k (c : Dev nD) : Pipeline.afterTail₀ cfgs (dats m) 0 (V0 m) [hostOps1] c main_v16
    = val_main_v17 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_k m c)
  rw [← final m c]
  exact congrArg (fun u => extractStridedSlice S32768x256 ![0, 8192] u slices_S32768x8832_S32768x256_0_8192) e

/-- What the run leaves in the third array. -/
theorem tail_v (c : Dev nD) : Pipeline.afterTail₀ cfgs (dats m) 0 (V0 m) [hostOps1] c main_v17
    = val_main_v18 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_v m c)
  rw [← final m c]
  exact congrArg (fun u => extractStridedSlice S32768x256 ![0, 8448] u slices_S32768x8832_S32768x256_0_8448) e

/-- What the run leaves in the fourth array. -/
theorem tail_z (c : Dev nD) : Pipeline.afterTail₀ cfgs (dats m) 0 (V0 m) [hostOps1] c main_v18
    = val_main_v19 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_z m c)
  rw [← final m c]
  exact congrArg (fun u => extractStridedSlice S32768x2048 ![0, 0] u slices_S32768x8832_S32768x2048_0_0) e

/-- What the run leaves in the fifth array. -/
theorem tail_xbc (c : Dev nD) : Pipeline.afterTail₀ cfgs (dats m) 0 (V0 m) [hostOps1] c main_v19
    = val_main_v20 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_xbc m c)
  rw [← final m c]
  exact congrArg (fun u => extractStridedSlice S32768x3072 ![0, 3072] u slices_S32768x8832_S32768x3072_0_3072) e

/-- What the run leaves in the sixth array. -/
theorem tail_dt (c : Dev nD) : Pipeline.afterTail₀ cfgs (dats m) 0 (V0 m) [hostOps1] c main_v20
    = val_main_v21 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_dt m c)
  rw [← final m c]
  exact congrArg (fun u => extractStridedSlice S32768x32 ![0, 8704] u slices_S32768x8832_S32768x32_0_8704) e

/-- What the run leaves in the seventh array. -/
theorem tail_ga (c : Dev nD) : Pipeline.afterTail₀ cfgs (dats m) 0 (V0 m) [hostOps1] c main_v21
    = val_main_v22 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_ga m c)
  rw [← final m c]
  exact congrArg (fun u => extractStridedSlice S32768x1024 ![0, 6144] u slices_S32768x8832_S32768x1024_0_6144) e

/-- What the run leaves in the eighth array. -/
theorem tail_gb (c : Dev nD) : Pipeline.afterTail₀ cfgs (dats m) 0 (V0 m) [hostOps1] c main_v22
    = val_main_v23 (F := Ideal) (m ((c : Thread nD τ).loc main_arg0)) (m ((c : Thread nD τ).loc main_arg1)) (m ((c : Thread nD τ).loc main_arg2)) := by
  unfold Pipeline.afterTail₀ hostOps1
  simp only [List.flatten_cons, List.flatten_nil, List.append_nil, List.cons_append, List.nil_append]
  after_results
  have e := Pipeline.withArrays_arr spec0 (by decide) c (V0 m c) (fun w => (dats m 0 c).arrAt w cfg0.N) 3
  refine Eq.trans ?_ (piece_gb m c)
  rw [← final m c]
  exact congrArg (fun u => extractStridedSlice S32768x1024 ![0, 7168] u slices_S32768x8832_S32768x1024_0_7168) e

/-- A run leaves the reference's eight arrays and the arguments as they were. -/
theorem run : θ_run (defs (F := Ideal)) (onTc (τ := τ) (main (F := Ideal))) ⟨m, fun _ => 0, g⟩ (fun r => ∀ c : Dev nD,
      r.2.mem ((c.tc : Thread nD τ).loc main_v15) = val_main_v16 (F := Ideal) (m ((c.tc : Thread nD τ).loc main_arg0)) (m ((c.tc : Thread nD τ).loc main_arg1)) (m ((c.tc : Thread nD τ).loc main_arg2))
      ∧ r.2.mem ((c.tc : Thread nD τ).loc main_v16) = val_main_v17 (F := Ideal) (m ((c.tc : Thread nD τ).loc main_arg0)) (m ((c.tc : Thread nD τ).loc main_arg1)) (m ((c.tc : Thread nD τ).loc main_arg2))
      ∧ r.2.mem ((c.tc : Thread nD τ).loc main_v17) = val_main_v18 (F := Ideal) (m ((c.tc : Thread nD τ).loc main_arg0)) (m ((c.tc : Thread nD τ).loc main_arg1)) (m ((c.tc : Thread nD τ).loc main_arg2))
      ∧ r.2.mem ((c.tc : Thread nD τ).loc main_v18) = val_main_v19 (F := Ideal) (m ((c.tc : Thread nD τ).loc main_arg0)) (m ((c.tc : Thread nD τ).loc main_arg1)) (m ((c.tc : Thread nD τ).loc main_arg2))
      ∧ r.2.mem ((c.tc : Thread nD τ).loc main_v19) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_v20) = val_main_v21 (F := Ideal) (m ((c.tc : Thread nD τ).loc main_arg0)) (m ((c.tc : Thread nD τ).loc main_arg1)) (m ((c.tc : Thread nD τ).loc main_arg2))
      ∧ r.2.mem ((c.tc : Thread nD τ).loc main_v21) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_v22) = val_main_v23 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨((h.1 c).2 main_v15 (Pipeline.mem_restRefs_of main_v15 (by decide) (by decide))).trans (tail_q m c),
    ((h.1 c).2 main_v16 (Pipeline.mem_restRefs_of main_v16 (by decide) (by decide))).trans (tail_k m c),
    ((h.1 c).2 main_v17 (Pipeline.mem_restRefs_of main_v17 (by decide) (by decide))).trans (tail_v m c),
    ((h.1 c).2 main_v18 (Pipeline.mem_restRefs_of main_v18 (by decide) (by decide))).trans (tail_z m c),
    ((h.1 c).2 main_v19 (Pipeline.mem_restRefs_of main_v19 (by decide) (by decide))).trans (tail_xbc m c),
    ((h.1 c).2 main_v20 (Pipeline.mem_restRefs_of main_v20 (by decide) (by decide))).trans (tail_dt m c),
    ((h.1 c).2 main_v21 (Pipeline.mem_restRefs_of main_v21 (by decide) (by decide))).trans (tail_ga m c),
    ((h.1 c).2 main_v22 (Pipeline.mem_restRefs_of main_v22 (by decide) (by decide))).trans (tail_gb m c),
    h.2 c⟩) (θ_run_and (run_main (F := Ideal) m g) (unchanged (F := Ideal) m g))

end Cert.InProj
-- ==== Proof.InProjClaim.lean ====
/-
  The input projection's value claim: over the extended reals the kernel and the reference return the same eight arrays.
-/
module

public import proofs.«01_k».proof.Defs
public import proofs.«01_k».proof.Proof.InProjRun
public import proofs.«01_k».proof.Proof.Gen.InProjRefIdeal.Run

@[expose] public section

noncomputable section

namespace Cert.InProj

open Idealize.ShloMosaic Idealize.ShloMosaic.TcCoe Idealize.SL.Sem

/-- From equal arguments both programs run and return equal arrays. -/
theorem algebraic : Cert.algebraic_InProjIdeal_InProjRefIdeal := by
  intro m g m' g' _ hagree
  refine ⟨fun c => InProjRefIdeal.Read.val_main_v16 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v17 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v18 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v19 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v20 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v21 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v22 (F := Ideal) (m ((c.tc : Thread _ _).loc InProjIdeal.main_arg0)) (m ((c.tc : Thread _ _).loc InProjIdeal.main_arg1))
      (m ((c.tc : Thread _ _).loc InProjIdeal.main_arg2)),
    fun c => InProjRefIdeal.Read.val_main_v23 (F := Ideal) (m ((c.tc : Thread _ _).loc InProjIdeal.main_arg0)) (m ((c.tc : Thread _ _).loc InProjIdeal.main_arg1))
      (m ((c.tc : Thread _ _).loc InProjIdeal.main_arg2)),
    run m g, ?_⟩
  refine (θ_run _ _ _).mono (fun r h c => ?_) (InProjRefIdeal.Value.run m' g')
  obtain ⟨h0, h1, h2, h3, h4, h5, h6, h7, hargs⟩ := h c
  obtain ⟨e0, e1, e2⟩ := hagree c
  beta_reduce
  rw [← e0, ← e1, ← e2]
  exact ⟨h0.trans (InProjRefIdeal.Read.val_main_v16_eq _ _ _), h1.trans (InProjRefIdeal.Read.val_main_v17_eq _ _ _), h2.trans (InProjRefIdeal.Read.val_main_v18_eq _ _ _), h3.trans (InProjRefIdeal.Read.val_main_v19_eq _ _ _), h4.trans (InProjRefIdeal.Read.val_main_v20_eq _ _ _), h5.trans (InProjRefIdeal.Read.val_main_v21_eq _ _ _), h6.trans (InProjRefIdeal.Read.val_main_v22_eq _ _ _), h7.trans (InProjRefIdeal.Read.val_main_v23_eq _ _ _), hargs⟩

end Cert.InProj
-- ==== Proof.MergeFinal.lean ====
/-
  The gated merge: what the kernel's grid points write is the reference's result, row block by row block.
-/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.Merge

open Idealize.ShloMosaic Idealize.ShloMosaic.TcCoe Idealize.SL.Sem Cert.MergeIdeal Cert.MergeIdeal.Gen
open Idealize.ShloMosaic.Pipeline (Dat)
open Cert.MergeRefIdeal.Read

variable (m : (ℓ : Loc nD τ sig) → Buf (Elt Ideal) ℓ) (c : Dev nD)

/-- The block each window holds at a grid point. -/
theorem idx : ∀ t : Fin cfg0.N, win0_0.index t = ![(grid0.coords t 0).val, 0]
    ∧ win0_1.index t = ![(grid0.coords t 0).val, 0]
    ∧ win0_2.index t = ![(grid0.coords t 0).val, 6]
    ∧ win0_3.index t = ![(grid0.coords t 0).val, 7]
    ∧ win0_4.index t = ![(grid0.coords t 0).val, 0]
    ∧ win0_5.index t = ![0, 0] ∧ win0_6.index t = ![0, 0] ∧ win0_7.index t = ![0, 0]
    ∧ win0_8.index t = ![(grid0.coords t 0).val, 0] :=
  (by decide +kernel : ∀ t : Fin grid0.N, _)

/-- The first gate's columns of the projection. -/
theorem ga_block (t : Fin cfg0.N) (r : Fin 512) (k : Fin 1024) :
    X0_2 m c t (ix2 r k) = m ((c : Thread nD τ).loc main_arg2)
      (ix2 ⟨(grid0.coords t 0).val * 512 + r.val, by have : (grid0.coords t 0).val < 64 := (grid0.coords t 0).isLt; omega⟩
        ⟨6144 + k.val, by omega⟩) := by
  unfold X0_2 Pipeline.Window.fill
  rw [dif_pos (moved0_2 t _)]
  blk_ext [iblk, V, idx t]

/-- The second gate's columns of the projection. -/
theorem gb_block (t : Fin cfg0.N) (r : Fin 512) (k : Fin 1024) :
    X0_3 m c t (ix2 r k) = m ((c : Thread nD τ).loc main_arg2)
      (ix2 ⟨(grid0.coords t 0).val * 512 + r.val, by have : (grid0.coords t 0).val < 64 := (grid0.coords t 0).isLt; omega⟩
        ⟨7168 + k.val, by omega⟩) := by
  unfold X0_3 Pipeline.Window.fill
  rw [dif_pos (moved0_3 t _)]
  blk_ext [iblk, V, idx t]

/-- The result array after the run is the reference's result of the seven arguments. -/
theorem final : (dats m 0 c).arrAt 8 cfg0.N = val_main_v25 (F := Ideal)
      (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) := by
  refine (dats m 0 c).arrAt_eq_of_covers 8 _ (by decide +kernel) fun t hf y => ?_
  blk_simp
  rw [after0_8]
  unfold outsAt0
  frame_out
  pointwise [k0_pay1, val_main_v25, val_main_v24, val_main_v23, val_main_v22, val_main_v21, val_main_v20, val_main_v19,
    val_main_v18, val_main_v17, val_main_cst_2, val_main_v16, val_main_v15, val_main_cst_1, val_main_v14,
    val_main_v13, val_main_v12, val_main_v11, val_main_v10, val_main_v9, val_main_v8, val_main_cst_0, val_main_v7,
    val_main_v6, val_main_cst, val_main_v5, val_main_v4, val_main_v3, val_main_v2, val_main_v1, val_main_v0]
  idx_vars y
  simp only [ga_block, gb_block, zero_sub]
  blk_point [iblk, V, idx t]

end Cert.Merge
-- ==== Proof.MergeClaim.lean ====
/-
  The gated merge's value claim: over the extended reals the kernel and the reference return the same array.
-/
module

public import proofs.«01_k».proof.Defs
public import proofs.«01_k».proof.Proof.MergeFinal
public import proofs.«01_k».proof.Proof.Gen.MergeRefIdeal.Run

@[expose] public section

noncomputable section

namespace Cert.Merge

open Idealize.ShloMosaic Idealize.ShloMosaic.TcCoe Idealize.SL.Sem

/-- From equal arguments both programs run and return equal arrays. -/
theorem algebraic : Cert.algebraic_MergeIdeal_MergeRefIdeal := by
  intro m g m' g' _ hagree
  refine ⟨fun c => (MergeIdeal.Gen.dats m 0 c).arrAt 8 MergeIdeal.cfg0.N, MergeIdeal.Value.run_blocks m g, ?_⟩
  refine (θ_run _ _ _).mono (fun r h c => ⟨((h c).1.trans (MergeRefIdeal.Read.val_main_v25_eq _ _ _ _ _ _ _)).trans ?_, (h c).2⟩)
    (MergeRefIdeal.Value.run m' g')
  obtain ⟨e0, e1, e2, e3, e4, e5, e6⟩ := hagree c
  rw [e0, e1, e2, e3, e4, e5, e6]
  exact (final m c).symm

end Cert.Merge
-- ==== Proof.QkvBlocks.lean ====
/-
  The normalised queries and keys and the values: what the grid points write.
-/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section

set_option maxRecDepth 16384

noncomputable section

namespace Cert.Qkv

open Idealize.ShloMosaic Idealize.ShloMosaic.TcCoe Idealize.SL.Sem Cert.QkvIdeal Cert.QkvIdeal.Gen
open Idealize.ShloMosaic.Pipeline (Dat)
open Cert.QkvRefIdeal.Read

variable (m : (ℓ : Loc nD τ sig) → Buf (Elt Ideal) ℓ) (c : Dev nD)

/-- The block each window holds at a grid point. -/
theorem idx : ∀ t : Fin cfg0.N, win0_0.index t = ![(grid0.coords t 0).val, 2]
    ∧ win0_1.index t = ![(grid0.coords t 0).val, 32]
    ∧ win0_2.index t = ![(grid0.coords t 0).val, 33]
    ∧ win0_3.index t = ![0, 0] ∧ win0_4.index t = ![0, 0] ∧ win0_5.index t = ![0, 0]
    ∧ win0_6.index t = ![(grid0.coords t 0).val, 0] ∧ win0_7.index t = ![(grid0.coords t 0).val, 0]
    ∧ win0_8.index t = ![(grid0.coords t 0).val, 0] :=
  (by decide +kernel : ∀ t : Fin grid0.N, _)

/-- The query columns of the projection. -/
theorem q_block (t : Fin cfg0.N) (r : Fin 512) (k : Fin 1024) :
    X0_0 m c t (ix2 r k) = m ((c : Thread nD τ).loc main_arg0)
      (ix2 ⟨(grid0.coords t 0).val * 512 + r.val, by have : (grid0.coords t 0).val < 64 := (grid0.coords t 0).isLt; omega⟩
        ⟨2048 + k.val, by omega⟩) := by
  unfold X0_0 Pipeline.Window.fill
  rw [dif_pos (moved0_0 t _)]
  have h0 : V m c main_arg0 = m ((c : Thread nD τ).loc main_arg0) := by unfold V; after_results
  blk_ext [iblk, h0, idx t]

/-- The key columns of the projection. -/
theorem k_block (t : Fin cfg0.N) (r : Fin 512) (k : Fin 256) :
    X0_1 m c t (ix2 r k) = m ((c : Thread nD τ).loc main_arg0)
      (ix2 ⟨(grid0.coords t 0).val * 512 + r.val, by have : (grid0.coords t 0).val < 64 := (grid0.coords t 0).isLt; omega⟩
        ⟨8192 + k.val, by omega⟩) := by
  unfold X0_1 Pipeline.Window.fill
  rw [dif_pos (moved0_1 t _)]
  have h0 : V m c main_arg0 = m ((c : Thread nD τ).loc main_arg0) := by unfold V; after_results
  blk_ext [iblk, h0, idx t]

/-- The value columns of the projection. -/
theorem v_block (t : Fin cfg0.N) (r : Fin 512) (k : Fin 256) :
    X0_2 m c t (ix2 r k) = m ((c : Thread nD τ).loc main_arg0)
      (ix2 ⟨(grid0.coords t 0).val * 512 + r.val, by have : (grid0.coords t 0).val < 64 := (grid0.coords t 0).isLt; omega⟩
        ⟨8448 + k.val, by omega⟩) := by
  unfold X0_2 Pipeline.Window.fill
  rw [dif_pos (moved0_2 t _)]
  have h0 : V m c main_arg0 = m ((c : Thread nD τ).loc main_arg0) := by unfold V; after_results
  blk_ext [iblk, h0, idx t]

/-- The values' array after the run is the reference's. -/
theorem final_v : (dats m 0 c).arrAt 8 cfg0.N = val_main_v2 (F := Ideal) (m ((c : Thread nD τ).loc main_arg0)) := by
  refine (dats m 0 c).arrAt_eq_of_covers 8 _ (by decide +kernel) fun t hf y => ?_
  blk_simp
  rw [after0_8]
  unfold outsAt0
  frame_out
  pointwise [val_main_v2]
  idx_vars y
  simp only [v_block]
  blk_point [iblk, idx t]

end Cert.Qkv
-- ==== Proof.QkvGmat.lean ====
/-
  The matrix that sums over a head: the host constant holds 1 where row and column lie in the same 64, else 0.
-/
module

public import proofs.«01_k».proof.QkvIdeal
public import proofs.«01_k».proof.Proof.DigitTree
public import Idealize.ShloMosaic.Lib.Tactic

@[expose] public section

set_option maxRecDepth 16384

namespace Cert.Qkv

open Idealize.ShloMosaic Cert.QkvIdeal Cert.DigitTree

/-- Word `j` of half row `k` of the matrix: the pattern of 1 where row and column share a head, of 0 elsewhere. -/
def same (k j : Nat) : BitVec 16 := bif Nat.beq (k / 2 / 64) ((j + 128 * (k % 2)) / 64) then 0x3F80#16 else 0x0000#16

/-- The constant's first 64 rows are the matrix's. -/
theorem quarter_0 (i : Nat) : lit0t1_0 i = pick (i / 128 % 128) fun k => pick (i % 128) (same k) := by
  sl_kernel_rfl

/-- The constant's next 64 rows are the matrix's. -/
theorem quarter_1 (i : Nat) : lit0t1_1 i = pick (i / 128 % 128) fun k => pick (i % 128) (same (128 + k)) := by
  sl_kernel_rfl

/-- The constant's rows 128 to 191 are the matrix's. -/
theorem quarter_2 (i : Nat) : lit0t1_2 i = pick (i / 128 % 128) fun k => pick (i % 128) (same (256 + k)) := by
  sl_kernel_rfl

/-- The constant's last 64 rows are the matrix's. -/
theorem quarter_3 (i : Nat) : lit0t1_3 i = pick (i / 128 % 128) fun k => pick (i % 128) (same (384 + k)) := by
  sl_kernel_rfl

/-- The constant's entry in row `r`, column `c`: the pattern of 1 where they share a head, of 0 elsewhere. -/
theorem lit_at (r c : Nat) (hr : r < 256) (hc : c < 256) :
    lit0t (256 * r + c) = if r / 64 = c / 64 then 0x3F80#16 else 0x0000#16 := by
  have leaf : ∀ q, (256 * r + c) / 16384 = q →
      (pick ((256 * r + c) / 128 % 128) fun k => pick ((256 * r + c) % 128) (same (128 * q + k)))
        = if r / 64 = c / 64 then 0x3F80#16 else 0x0000#16 := by
    intro q hq
    rw [pick_eq _ (Nat.mod_lt _ (by omega)), pick_eq _ (Nat.mod_lt _ (by omega)), same]
    have e1 : (256 * r + c) % 128 + 128 * ((128 * q + (256 * r + c) / 128 % 128) % 2) = c := by omega
    have e2 : (128 * q + (256 * r + c) / 128 % 128) / 2 = r := by omega
    rw [e1, e2]
    by_cases h : r / 64 = c / 64
    · rw [if_pos h, (by rw [h]; exact Nat.beq_refl _ : Nat.beq (r / 64) (c / 64) = true), cond_true]
    · rw [if_neg h, (Bool.eq_false_iff.2 fun e => h (Nat.eq_of_beq_eq_true e) : Nat.beq (r / 64) (c / 64) = false), cond_false]
  rcases (by omega : (256 * r + c) / 16384 = 0 ∨ (256 * r + c) / 16384 = 1 ∨ (256 * r + c) / 16384 = 2
    ∨ (256 * r + c) / 16384 = 3) with h | h | h | h
  · have := leaf 0 h
    rw [show lit0t (256 * r + c) = lit0t1_0 (256 * r + c) by unfold lit0t; rw [h]; rfl, quarter_0]
    simpa using this
  · have := leaf 1 h
    rw [show lit0t (256 * r + c) = lit0t1_1 (256 * r + c) by unfold lit0t; rw [h]; rfl, quarter_1]
    simpa using this
  · have := leaf 2 h
    rw [show lit0t (256 * r + c) = lit0t1_2 (256 * r + c) by unfold lit0t; rw [h]; rfl, quarter_2]
    simpa using this
  · have := leaf 3 h
    rw [show lit0t (256 * r + c) = lit0t1_3 (256 * r + c) by unfold lit0t; rw [h]; rfl, quarter_3]
    simpa using this

end Cert.Qkv
-- ==== Proof.QkvWeights.lean ====
/-
  The normalised queries and keys and the values: what the grid points write.
-/
module

public import proofs.«01_k».proof.Proof.Gen.QkvIdeal.Value
public import proofs.«01_k».proof.Proof.Gen.QkvRefIdeal.Read
public import proofs.«01_k».proof.Proof.QkvBlocks
public import proofs.«01_k».proof.Proof.QkvGmat
public import Idealize.ShloMosaic.Lib.Pipeline.ValueKit
public import Idealize.ShloMosaic.Lib.Pointwise

@[expose] public section

set_option maxRecDepth 16384

noncomputable section

namespace Cert.Qkv

open Idealize.ShloMosaic Idealize.ShloMosaic.TcCoe Idealize.SL.Sem Cert.QkvIdeal Cert.QkvIdeal.Gen
open Idealize.ShloMosaic.Pipeline (Dat)
open Cert.QkvRefIdeal.Read

variable (m : (ℓ : Loc nD τ sig) → Buf (Elt Ideal) ℓ) (c : Dev nD)

/-- The query weights, tiled over the block's columns. -/
theorem qw_block (t : Fin cfg0.N) (k : Fin 256) :
    iblk m c 3 t (ix2 0 k) = m ((c : Thread nD τ).loc main_arg1) (ix2 0 ⟨k.val % 64, Nat.mod_lt _ (by decide)⟩) := by
  blk_simp [iblk, idx t]
  entry_read
  pointwise []
  blk_ext [idx t]

/-- The key weights, tiled over the block's columns. -/
theorem kw_block (t : Fin cfg0.N) (k : Fin 256) :
    iblk m c 4 t (ix2 0 k) = m ((c : Thread nD τ).loc main_arg2) (ix2 0 ⟨k.val % 64, Nat.mod_lt _ (by decide)⟩) := by
  blk_simp [iblk, idx t]
  entry_read
  pointwise []
  blk_ext [idx t]

/-- The head matrix, from the host constant. -/
theorem g_block (t : Fin cfg0.N) (k l : Fin 256) :
    iblk m c 5 t (ix2 k l) = (FloatOps.ofBits .bf16 (lit0t (256 * k.val + l.val)) : Ideal .bf16) := by
  blk_simp [iblk, idx t]
  entry_read
  have e : ((View.whole main_cst).slice (win0_5.rect t)).emb (ix2 k l) = (ix2 k l : S256x256.Idx) := by blk_ext [idx t]
  rw [e]
  refine congrArg (FloatOps.ofBits (F := Ideal) FTy.bf16) ?_
  have hl : ∀ f : Fin 65536, ∀ n : Nat, f.val = n → lit0 f = lit0t n := by
    intro f n h
    subst h
    rfl
  refine hl _ _ ?_
  refine (Shape.rowMajor_val_two _).trans ?_
  simp [ix2]
  omega

end Cert.Qkv
-- ==== Proof.QkvMath.lean ====
/-
  The mean of a head's squares: one product with the head matrix of the squares, and one of what the squares less
  themselves leave, make the sum over the head's 64 columns.
-/
module

public import proofs.«01_k».proof.Proof.StickMath

@[expose] public section

set_option maxRecDepth 16384

noncomputable section

namespace Cert.Qkv

open Idealize.ShloMosaic

/-- The sum over 256 columns of a function times the indicator of column `k`'s head is the sum over that head. -/
theorem head_sum (f g : Fin 256 → EReal) (k : Fin 256)
    (hg : ∀ l : Fin 256, g l = if l.val / 64 = k.val / 64 then 1 else 0) :
    ∑ l, f l * g l = ∑ e : Fin 64, f ⟨k.val / 64 * 64 + e.val, by omega⟩ := by
  symm
  refine Finset.sum_of_injOn (fun e : Fin 64 => (⟨k.val / 64 * 64 + e.val, by omega⟩ : Fin 256)) ?_ ?_ ?_ ?_
  · intro a _ b _ h
    exact Fin.ext (Nat.add_left_cancel (Fin.mk.inj h))
  · intro e _
    exact Finset.mem_coe.2 (Finset.mem_univ _)
  · intro l _ hl
    rw [hg, if_neg, mul_zero]
    intro h
    refine hl ⟨⟨l.val - k.val / 64 * 64, by omega⟩, Finset.mem_coe.2 (Finset.mem_univ _), Fin.ext ?_⟩
    show k.val / 64 * 64 + (l.val - k.val / 64 * 64) = l.val
    omega
  · intro e _
    rw [hg, if_pos, mul_one]
    show (k.val / 64 * 64 + e.val) / 64 = k.val / 64
    omega

/-- The pattern of 64. -/
theorem ofBits_64 : Ideal.ofBits .f32 1115684864#32 = ((64 : ℝ) : EReal) := by
  simp [Ideal.ofBits, Ideal.ieee]
  norm_num
  rw [← EReal.coe_mul]
  norm_num

/-- The pattern of 1/64. -/
theorem ofBits_inv64 : Ideal.ofBits .f32 1015021568#32 = ((1 / 64 : ℝ) : EReal) := by
  simp [Ideal.ofBits, Ideal.ieee]
  norm_num
  rw [← EReal.coe_mul]
  norm_num

/-- At real numbers the two products' sum times 1/64 is the head's sum of squares divided by 64. -/
theorem mean_square (x g : Fin 256 → EReal) (k : Fin 256) (hx : ∀ l, ∃ r : ℝ, x l = (r : EReal))
    (hg : ∀ l : Fin 256, g l = if l.val / 64 = k.val / 64 then 1 else 0) :
    (∑ l, x l * x l * g l + ∑ l, (x l * x l - x l * x l) * g l) * Ideal.ofBits .f32 1015021568#32
      = Ideal.div (∑ e : Fin 64, x ⟨k.val / 64 * 64 + e.val, by omega⟩ * x ⟨k.val / 64 * 64 + e.val, by omega⟩)
          (Ideal.ofBits .f32 1115684864#32) := by
  have hz : ∀ l, (x l * x l - x l * x l) * g l = 0 := by
    intro l
    obtain ⟨r, hr⟩ := hx l
    rw [hr, ← EReal.coe_mul, ← EReal.coe_sub, sub_self, EReal.coe_zero, zero_mul]
  rw [Finset.sum_congr rfl fun l _ => hz l, Finset.sum_const_zero, add_zero,
    head_sum (fun l => x l * x l) g k hg, ofBits_64, ofBits_inv64, Ideal.div_coe (by norm_num)]

end Cert.Qkv
-- ==== Proof.QkvFinal.lean ====
/-
  The normalised queries and keys and the values: what the grid points write.
-/
module

public import proofs.«01_k».proof.Proof.Gen.QkvIdeal.Value
public import proofs.«01_k».proof.Proof.Gen.QkvRefIdeal.Read
public import proofs.«01_k».proof.Proof.QkvWeights
public import proofs.«01_k».proof.Proof.QkvMath
public import Idealize.ShloMosaic.Lib.Pipeline.ValueKit
public import Idealize.ShloMosaic.Lib.Pointwise

@[expose] public section

set_option maxRecDepth 16384

noncomputable section

namespace Cert.Qkv

open Idealize.ShloMosaic Idealize.ShloMosaic.TcCoe Idealize.SL.Sem Cert.QkvIdeal Cert.QkvIdeal.Gen
open Idealize.ShloMosaic.Pipeline (Dat)
open Cert.QkvRefIdeal.Read

variable (m : (ℓ : Loc nD τ sig) → Buf (Elt Ideal) ℓ) (c : Dev nD)

/-- The head matrix's block holds 1 where row and column share a head, else 0. -/
theorem g_entry (t : Fin cfg0.N) (k l : Fin 256) :
    iblk m c 5 t (ix2 k l) = if k.val / 64 = l.val / 64 then (1 : EReal) else (0 : EReal) := by
  rw [g_block, lit_at _ _ k.isLt l.isLt]
  by_cases h : k.val / 64 = l.val / 64
  · rw [if_pos h, if_pos h]
    exact Ideal.ofBits_one_bf16
  · rw [if_neg h, if_neg h]
    exact Ideal.ofBits_zero_bf16

/-- The keys' array after the run is the reference's, at a projection of real numbers. -/
theorem final_k (hx : ∀ i, ∃ r : ℝ, (m ((c : Thread nD τ).loc main_arg0) i : EReal) = (r : EReal)) :
    (dats m 0 c).arrAt 7 cfg0.N = val_main_v37 (F := Ideal) (m ((c : Thread nD τ).loc main_arg0))
      (m ((c : Thread nD τ).loc main_arg2)) := by
  refine (dats m 0 c).arrAt_eq_of_covers 7 _ (by decide +kernel) fun t hf y => ?_
  blk_simp
  rw [after0_7]
  unfold outsAt0
  frame_out
  pointwise [k0_pay2, val_main_v37, val_main_v34, val_main_v33, val_main_v32, val_main_v31, val_main_v30, val_main_v29, val_main_v28,
    val_main_v27, val_main_v26, val_main_v25, val_main_v24, val_main_v23, val_main_v22, val_main_v21, val_main_v20,
    val_main_v1, val_main_cst_3, val_main_cst_4, val_main_cst_5]
  idx_vars y
  rw [mean_square (fun l => X0_1 m c t (ix2 y0 l)) (fun l => iblk m c 5 t (ix2 l y1)) y1
    (fun l => by rw [k_block]; exact hx _) (fun l => g_entry m c t l y1)]
  simp only [k_block, kw_block]
  blk_point [idx t]

/-- One entry of a query column block: the kernel's normalisation with the head matrix is the head's own. -/
theorem q_entry (A : S32768x8832.Idx → EReal) (B : S1x64.Idx → EReal) (X : S512x1024.Idx → EReal)
    (G : S256x256.Idx → EReal) (W : S1x256.Idx → EReal) (s : Fin 4) (f : Fin 256 → Fin 1024) (r : Fin 512) (j : Fin 256)
    (R : Fin 32768) (J : Fin 1024) (hx : ∀ i, ∃ a : ℝ, A i = (a : EReal))
    (hX : ∀ l : Fin 256, X (ix2 r (f l)) = A (ix2 R ⟨2048 + (256 * s.val + l.val), by omega⟩))
    (hG : ∀ k l : Fin 256, G (ix2 k l) = if k.val / 64 = l.val / 64 then 1 else 0)
    (hW : ∀ k : Fin 256, W (ix2 0 k) = B (ix2 0 ⟨k.val % 64, Nat.mod_lt _ (by decide)⟩))
    (hJ : J.val = 256 * s.val + j.val) :
    X (ix2 r (f j)) * Ideal.rsqrt ((∑ l, X (ix2 r (f l)) * X (ix2 r (f l)) * G (ix2 l j)
        + ∑ l, (X (ix2 r (f l)) * X (ix2 r (f l)) - X (ix2 r (f l)) * X (ix2 r (f l))) * G (ix2 l j))
          * Ideal.ofBits .f32 1015021568#32 + Ideal.ofBits .f32 897988541#32)
      * W (ix2 0 j) * Ideal.ofBits .f32 1040187392#32
    = A (ix2 R ⟨2048 + J.val, by omega⟩)
      * Ideal.rsqrt (Ideal.div (∑ e : Fin 64, A (ix2 R ⟨2048 + (J.val / 64 * 64 + e.val), by omega⟩)
            * A (ix2 R ⟨2048 + (J.val / 64 * 64 + e.val), by omega⟩))
          (Ideal.ofBits .f32 1115684864#32) + Ideal.ofBits .f32 897988541#32)
      * B (ix2 0 ⟨J.val % 64, Nat.mod_lt _ (by decide)⟩) * Ideal.ofBits .f32 1040187392#32 := by
  rw [mean_square (fun l => X (ix2 r (f l))) (fun l => G (ix2 l j)) j
    (fun l => by rw [hX]; exact hx _) (fun l => hG l j), hW]
  simp only [hX]
  have e0 : 2048 + (256 * s.val + j.val) = 2048 + J.val := by omega
  have e1 : ∀ e : Fin 64, 2048 + (256 * s.val + (j.val / 64 * 64 + e.val)) = 2048 + (J.val / 64 * 64 + e.val) := by
    intro e
    omega
  have e2 : j.val % 64 = J.val % 64 := by omega
  simp only [e0, e1, e2]

/-- The queries' array after the run is the reference's, at a projection of real numbers. -/
theorem final_q (hx : ∀ i, ∃ r : ℝ, (m ((c : Thread nD τ).loc main_arg0) i : EReal) = (r : EReal)) :
    (dats m 0 c).arrAt 6 cfg0.N = val_main_v36 (F := Ideal) (m ((c : Thread nD τ).loc main_arg0))
      (m ((c : Thread nD τ).loc main_arg1)) := by
  refine (dats m 0 c).arrAt_eq_of_covers 6 _ (by decide +kernel) fun t hf y => ?_
  blk_simp
  rw [after0_6]
  unfold outsAt0
  frame_out
  have hy0 : (y 0).val < 512 := (y 0).isLt
  have ht : (grid0.coords t 0).val < 64 := (grid0.coords t 0).isLt
  have hy : ((View.whole main_v10_0).slice (win0_6.rect t)).emb y
      = (ix2 ⟨(grid0.coords t 0).val * 512 + (y 0).val, by omega⟩ (y 1) : S32768x1024.Idx) := by
    blk_ext [idx t]
  rw [hy]
  canon_tiles x h
  all_goals
    pointwise [k0_pay1, k0_pay3, k0_pay4, k0_pay5, k0_pay6, k0_pay7, k0_pay8, val_main_v36, val_main_v35, val_main_v19, val_main_v18, val_main_v17, val_main_v16,
      val_main_v15, val_main_v14, val_main_v13, val_main_v12, val_main_v11, val_main_v10, val_main_v9, val_main_v8, val_main_v7,
      val_main_v6, val_main_v5, val_main_v4, val_main_v3, val_main_v0, val_main_cst, val_main_cst_0, val_main_cst_1, val_main_cst_2]
  all_goals
    first
      | refine q_entry _ _ _ _ _ 3 (fun l => ⟨768 + l.val, by omega⟩) _ (x 1) _ _ hx (fun l => ?_) (fun k l => g_entry m c t k l)
          (fun k => qw_block m c t k) h1
      | refine q_entry _ _ _ _ _ 2 (fun l => ⟨512 + l.val, by omega⟩) _ (x 1) _ _ hx (fun l => ?_) (fun k l => g_entry m c t k l)
          (fun k => qw_block m c t k) h1
      | refine q_entry _ _ _ _ _ 1 (fun l => ⟨256 + l.val, by omega⟩) _ (x 1) _ _ hx (fun l => ?_) (fun k l => g_entry m c t k l)
          (fun k => qw_block m c t k) h1
      | refine q_entry _ _ _ _ _ 0 (fun l => ⟨l.val, by omega⟩) _ (x 1) _ _ hx (fun l => ?_) (fun k l => g_entry m c t k l)
          (fun k => qw_block m c t k) (h1.trans (Nat.zero_add _).symm)
    refine (q_block m c t (x 0) _).trans ?_
    exact congrArg _ (congrArg₂ ix2 (Fin.ext (by show _ * 512 + _ = _ * 512 + _; rw [h0]))
      (Fin.ext (by dsimp only; omega)))

end Cert.Qkv
-- ==== Proof.QkvPre.lean ====
/-
  What the precondition `finite_qkv` says: every entry of the projection is a real number.
-/
module

public import proofs.«01_k».proof.Proof.Gen.Pre_finite_qkv
public import proofs.«01_k».proof.Proof.AttnPre
public import Idealize.ShloMosaic.Lib.Pointwise
public import Idealize.ShloMosaic.Lib.ReduceAll

@[expose] public section

set_option maxRecDepth 16384

noncomputable section

namespace Cert.Qkv.Pre

open Idealize.ShloMosaic Cert.Pre_finite_qkv

variable (x0 : FVec Ideal S32768x8832 .f32) (x1 x2 : FVec Ideal S1x64 .f32)

/-- Under the precondition the projection's entries are real numbers. -/
theorem reals (h : fn (F := Ideal) x0 x1 x2 = fun _ => 1#1) : ∀ i, ∃ r : ℝ, x0 i = (r : EReal) := by
  have h' := congrFun h ix0
  dsimp only [fn] at h'
  haveI : Subsingleton S_.Idx := ⟨fun a b => funext fun k => k.elim0⟩
  exact fun i => Cert.Attn.Pre.real_of_lt _ (Host.reduce_andi_all _ _ _ _ _ h' i)

end Cert.Qkv.Pre
-- ==== Proof.QkvClaim.lean ====
/-
  The value claim of the normalised queries and keys: over the reals the kernel and the reference return the same three
  arrays.
-/
module

public import proofs.«01_k».proof.Defs
public import proofs.«01_k».proof.Proof.QkvFinal
public import proofs.«01_k».proof.Proof.QkvPre
public import proofs.«01_k».proof.Proof.Gen.QkvRefIdeal.Run

@[expose] public section

noncomputable section

namespace Cert.Qkv

open Idealize.ShloMosaic Idealize.ShloMosaic.TcCoe Idealize.SL.Sem

/-- From a projection of real numbers both programs run and return equal queries, keys and values. -/
theorem algebraic : Cert.algebraic_QkvIdeal_QkvRefIdeal_pre_finite_qkv := by
  intro m g m' g' hpre hagree
  refine ⟨fun c => (QkvIdeal.Gen.dats m 0 c).arrAt 6 QkvIdeal.cfg0.N, fun c => (QkvIdeal.Gen.dats m 0 c).arrAt 7 QkvIdeal.cfg0.N,
    fun c => (QkvIdeal.Gen.dats m 0 c).arrAt 8 QkvIdeal.cfg0.N, QkvIdeal.Value.run_blocks m g, ?_⟩
  refine (θ_run _ _ _).mono (fun r h c => ?_) (QkvRefIdeal.Value.run m' g')
  obtain ⟨h0, h1, h2, hargs⟩ := h c
  obtain ⟨e0, e1, e2⟩ := hagree c
  have hx := Pre.reals _ _ _ (hpre c)
  beta_reduce
  rw [final_q m c hx, final_k m c hx, final_v m c, ← e0, ← e1, ← e2]
  exact ⟨h0.trans (QkvRefIdeal.Read.val_main_v36_eq _ _), h1.trans (QkvRefIdeal.Read.val_main_v37_eq _ _),
    h2.trans (QkvRefIdeal.Read.val_main_v2_eq _), hargs⟩

end Cert.Qkv
-- ==== Proof.QkvSBlocks.lean ====
/-
  The normalised queries and keys and the values: what the grid points write.

  At the sample batch's shape.
-/
module

public import proofs.«01_k».proof.Proof.Gen.QkvSIdeal.Value
public import proofs.«01_k».proof.Proof.Gen.QkvSRefIdeal.Read
public import Idealize.ShloMosaic.Lib.Pipeline.ValueKit
public import Idealize.ShloMosaic.Lib.Pointwise

@[expose] public section

set_option maxRecDepth 16384

noncomputable section

namespace Cert.QkvS

open Idealize.ShloMosaic Idealize.ShloMosaic.TcCoe Idealize.SL.Sem Cert.QkvSIdeal Cert.QkvSIdeal.Gen
open Idealize.ShloMosaic.Pipeline (Dat)
open Cert.QkvSRefIdeal.Read

variable (m : (ℓ : Loc nD τ sig) → Buf (Elt Ideal) ℓ) (c : Dev nD)

/-- The block each window holds at a grid point. -/
theorem idx : ∀ t : Fin cfg0.N, win0_0.index t = ![(grid0.coords t 0).val, 2]
    ∧ win0_1.index t = ![(grid0.coords t 0).val, 32]
    ∧ win0_2.index t = ![(grid0.coords t 0).val, 33]
    ∧ win0_3.index t = ![0, 0] ∧ win0_4.index t = ![0, 0] ∧ win0_5.index t = ![0, 0]
    ∧ win0_6.index t = ![(grid0.coords t 0).val, 0] ∧ win0_7.index t = ![(grid0.coords t 0).val, 0]
    ∧ win0_8.index t = ![(grid0.coords t 0).val, 0] :=
  (by decide +kernel : ∀ t : Fin grid0.N, _)

/-- The query columns of the projection. -/
theorem q_block (t : Fin cfg0.N) (r : Fin 512) (k : Fin 1024) :
    X0_0 m c t (ix2 r k) = m ((c : Thread nD τ).loc main_arg0)
      (ix2 ⟨(grid0.coords t 0).val * 512 + r.val, by have : (grid0.coords t 0).val < 2 := (grid0.coords t 0).isLt; omega⟩
        ⟨2048 + k.val, by omega⟩) := by
  unfold X0_0 Pipeline.Window.fill
  rw [dif_pos (moved0_0 t _)]
  have h0 : V m c main_arg0 = m ((c : Thread nD τ).loc main_arg0) := by unfold V; after_results
  blk_ext [iblk, h0, idx t]

/-- The key columns of the projection. -/
theorem k_block (t : Fin cfg0.N) (r : Fin 512) (k : Fin 256) :
    X0_1 m c t (ix2 r k) = m ((c : Thread nD τ).loc main_arg0)
      (ix2 ⟨(grid0.coords t 0).val * 512 + r.val, by have : (grid0.coords t 0).val < 2 := (grid0.coords t 0).isLt; omega⟩
        ⟨8192 + k.val, by omega⟩) := by
  unfold X0_1 Pipeline.Window.fill
  rw [dif_pos (moved0_1 t _)]
  have h0 : V m c main_arg0 = m ((c : Thread nD τ).loc main_arg0) := by unfold V; after_results
  blk_ext [iblk, h0, idx t]

/-- The value columns of the projection. -/
theorem v_block (t : Fin cfg0.N) (r : Fin 512) (k : Fin 256) :
    X0_2 m c t (ix2 r k) = m ((c : Thread nD τ).loc main_arg0)
      (ix2 ⟨(grid0.coords t 0).val * 512 + r.val, by have : (grid0.coords t 0).val < 2 := (grid0.coords t 0).isLt; omega⟩
        ⟨8448 + k.val, by omega⟩) := by
  unfold X0_2 Pipeline.Window.fill
  rw [dif_pos (moved0_2 t _)]
  have h0 : V m c main_arg0 = m ((c : Thread nD τ).loc main_arg0) := by unfold V; after_results
  blk_ext [iblk, h0, idx t]

/-- The values' array after the run is the reference's. -/
theorem final_v : (dats m 0 c).arrAt 8 cfg0.N = val_main_v2 (F := Ideal) (m ((c : Thread nD τ).loc main_arg0)) := by
  refine (dats m 0 c).arrAt_eq_of_covers 8 _ (by decide +kernel) fun t hf y => ?_
  blk_simp
  rw [after0_8]
  unfold outsAt0
  frame_out
  pointwise [val_main_v2]
  idx_vars y
  simp only [v_block]
  blk_point [iblk, idx t]

end Cert.QkvS
-- ==== Proof.QkvSGmat.lean ====
/-
  The matrix that sums over a head: the host constant holds 1 where row and column lie in the same 64, else 0.

  At the sample batch's shape.
-/
module

public import proofs.«01_k».proof.QkvSIdeal
public import proofs.«01_k».proof.Proof.DigitTree
public import Idealize.ShloMosaic.Lib.Tactic

@[expose] public section

set_option maxRecDepth 16384

namespace Cert.QkvS

open Idealize.ShloMosaic Cert.QkvSIdeal Cert.DigitTree

/-- Word `j` of half row `k` of the matrix: the pattern of 1 where row and column share a head, of 0 elsewhere. -/
def same (k j : Nat) : BitVec 16 := bif Nat.beq (k / 2 / 64) ((j + 128 * (k % 2)) / 64) then 0x3F80#16 else 0x0000#16

/-- The constant's first 64 rows are the matrix's. -/
theorem quarter_0 (i : Nat) : lit0t1_0 i = pick (i / 128 % 128) fun k => pick (i % 128) (same k) := by
  sl_kernel_rfl

/-- The constant's next 64 rows are the matrix's. -/
theorem quarter_1 (i : Nat) : lit0t1_1 i = pick (i / 128 % 128) fun k => pick (i % 128) (same (128 + k)) := by
  sl_kernel_rfl

/-- The constant's rows 128 to 191 are the matrix's. -/
theorem quarter_2 (i : Nat) : lit0t1_2 i = pick (i / 128 % 128) fun k => pick (i % 128) (same (256 + k)) := by
  sl_kernel_rfl

/-- The constant's last 64 rows are the matrix's. -/
theorem quarter_3 (i : Nat) : lit0t1_3 i = pick (i / 128 % 128) fun k => pick (i % 128) (same (384 + k)) := by
  sl_kernel_rfl

/-- The constant's entry in row `r`, column `c`: the pattern of 1 where they share a head, of 0 elsewhere. -/
theorem lit_at (r c : Nat) (hr : r < 256) (hc : c < 256) :
    lit0t (256 * r + c) = if r / 64 = c / 64 then 0x3F80#16 else 0x0000#16 := by
  have leaf : ∀ q, (256 * r + c) / 16384 = q →
      (pick ((256 * r + c) / 128 % 128) fun k => pick ((256 * r + c) % 128) (same (128 * q + k)))
        = if r / 64 = c / 64 then 0x3F80#16 else 0x0000#16 := by
    intro q hq
    rw [pick_eq _ (Nat.mod_lt _ (by omega)), pick_eq _ (Nat.mod_lt _ (by omega)), same]
    have e1 : (256 * r + c) % 128 + 128 * ((128 * q + (256 * r + c) / 128 % 128) % 2) = c := by omega
    have e2 : (128 * q + (256 * r + c) / 128 % 128) / 2 = r := by omega
    rw [e1, e2]
    by_cases h : r / 64 = c / 64
    · rw [if_pos h, (by rw [h]; exact Nat.beq_refl _ : Nat.beq (r / 64) (c / 64) = true), cond_true]
    · rw [if_neg h, (Bool.eq_false_iff.2 fun e => h (Nat.eq_of_beq_eq_true e) : Nat.beq (r / 64) (c / 64) = false), cond_false]
  rcases (by omega : (256 * r + c) / 16384 = 0 ∨ (256 * r + c) / 16384 = 1 ∨ (256 * r + c) / 16384 = 2
    ∨ (256 * r + c) / 16384 = 3) with h | h | h | h
  · have := leaf 0 h
    rw [show lit0t (256 * r + c) = lit0t1_0 (256 * r + c) by unfold lit0t; rw [h]; rfl, quarter_0]
    simpa using this
  · have := leaf 1 h
    rw [show lit0t (256 * r + c) = lit0t1_1 (256 * r + c) by unfold lit0t; rw [h]; rfl, quarter_1]
    simpa using this
  · have := leaf 2 h
    rw [show lit0t (256 * r + c) = lit0t1_2 (256 * r + c) by unfold lit0t; rw [h]; rfl, quarter_2]
    simpa using this
  · have := leaf 3 h
    rw [show lit0t (256 * r + c) = lit0t1_3 (256 * r + c) by unfold lit0t; rw [h]; rfl, quarter_3]
    simpa using this

end Cert.QkvS
-- ==== Proof.QkvSWeights.lean ====
/-
  The normalised queries and keys and the values: what the grid points write.

  At the sample batch's shape.
-/
module

public import proofs.«01_k».proof.Proof.Gen.QkvSIdeal.Value
public import proofs.«01_k».proof.Proof.Gen.QkvSRefIdeal.Read
public import proofs.«01_k».proof.Proof.QkvSBlocks
public import proofs.«01_k».proof.Proof.QkvSGmat
public import Idealize.ShloMosaic.Lib.Pipeline.ValueKit
public import Idealize.ShloMosaic.Lib.Pointwise

@[expose] public section

set_option maxRecDepth 16384

noncomputable section

namespace Cert.QkvS

open Idealize.ShloMosaic Idealize.ShloMosaic.TcCoe Idealize.SL.Sem Cert.QkvSIdeal Cert.QkvSIdeal.Gen
open Idealize.ShloMosaic.Pipeline (Dat)
open Cert.QkvSRefIdeal.Read

variable (m : (ℓ : Loc nD τ sig) → Buf (Elt Ideal) ℓ) (c : Dev nD)

/-- The query weights, tiled over the block's columns. -/
theorem qw_block (t : Fin cfg0.N) (k : Fin 256) :
    iblk m c 3 t (ix2 0 k) = m ((c : Thread nD τ).loc main_arg1) (ix2 0 ⟨k.val % 64, Nat.mod_lt _ (by decide)⟩) := by
  blk_simp [iblk, idx t]
  entry_read
  pointwise []
  blk_ext [idx t]

/-- The key weights, tiled over the block's columns. -/
theorem kw_block (t : Fin cfg0.N) (k : Fin 256) :
    iblk m c 4 t (ix2 0 k) = m ((c : Thread nD τ).loc main_arg2) (ix2 0 ⟨k.val % 64, Nat.mod_lt _ (by decide)⟩) := by
  blk_simp [iblk, idx t]
  entry_read
  pointwise []
  blk_ext [idx t]

/-- The head matrix, from the host constant. -/
theorem g_block (t : Fin cfg0.N) (k l : Fin 256) :
    iblk m c 5 t (ix2 k l) = (FloatOps.ofBits .bf16 (lit0t (256 * k.val + l.val)) : Ideal .bf16) := by
  blk_simp [iblk, idx t]
  entry_read
  have e : ((View.whole main_cst).slice (win0_5.rect t)).emb (ix2 k l) = (ix2 k l : S256x256.Idx) := by blk_ext [idx t]
  rw [e]
  refine congrArg (FloatOps.ofBits (F := Ideal) FTy.bf16) ?_
  have hl : ∀ f : Fin 65536, ∀ n : Nat, f.val = n → lit0 f = lit0t n := by
    intro f n h
    subst h
    rfl
  refine hl _ _ ?_
  refine (Shape.rowMajor_val_two _).trans ?_
  simp [ix2]
  omega

end Cert.QkvS
-- ==== Proof.QkvSFinal.lean ====
/-
  The normalised queries and keys and the values: what the grid points write.

  At the sample batch's shape.
-/
module

public import proofs.«01_k».proof.Proof.Gen.QkvSIdeal.Value
public import proofs.«01_k».proof.Proof.Gen.QkvSRefIdeal.Read
public import proofs.«01_k».proof.Proof.QkvSWeights
public import proofs.«01_k».proof.Proof.QkvMath
public import Idealize.ShloMosaic.Lib.Pipeline.ValueKit
public import Idealize.ShloMosaic.Lib.Pointwise

@[expose] public section

set_option maxRecDepth 16384

noncomputable section

namespace Cert.QkvS

open Idealize.ShloMosaic Idealize.ShloMosaic.TcCoe Idealize.SL.Sem Cert.QkvSIdeal Cert.QkvSIdeal.Gen
open Idealize.ShloMosaic.Pipeline (Dat)
open Cert.QkvSRefIdeal.Read

variable (m : (ℓ : Loc nD τ sig) → Buf (Elt Ideal) ℓ) (c : Dev nD)

/-- The head matrix's block holds 1 where row and column share a head, else 0. -/
theorem g_entry (t : Fin cfg0.N) (k l : Fin 256) :
    iblk m c 5 t (ix2 k l) = if k.val / 64 = l.val / 64 then (1 : EReal) else (0 : EReal) := by
  rw [g_block, lit_at _ _ k.isLt l.isLt]
  by_cases h : k.val / 64 = l.val / 64
  · rw [if_pos h, if_pos h]
    exact Ideal.ofBits_one_bf16
  · rw [if_neg h, if_neg h]
    exact Ideal.ofBits_zero_bf16

/-- The keys' array after the run is the reference's, at a projection of real numbers. -/
theorem final_k (hx : ∀ i, ∃ r : ℝ, (m ((c : Thread nD τ).loc main_arg0) i : EReal) = (r : EReal)) :
    (dats m 0 c).arrAt 7 cfg0.N = val_main_v37 (F := Ideal) (m ((c : Thread nD τ).loc main_arg0))
      (m ((c : Thread nD τ).loc main_arg2)) := by
  refine (dats m 0 c).arrAt_eq_of_covers 7 _ (by decide +kernel) fun t hf y => ?_
  blk_simp
  rw [after0_7]
  unfold outsAt0
  frame_out
  pointwise [k0_pay2, val_main_v37, val_main_v34, val_main_v33, val_main_v32, val_main_v31, val_main_v30, val_main_v29, val_main_v28,
    val_main_v27, val_main_v26, val_main_v25, val_main_v24, val_main_v23, val_main_v22, val_main_v21, val_main_v20,
    val_main_v1, val_main_cst_3, val_main_cst_4, val_main_cst_5]
  idx_vars y
  rw [Cert.Qkv.mean_square (fun l => X0_1 m c t (ix2 y0 l)) (fun l => iblk m c 5 t (ix2 l y1)) y1
    (fun l => by rw [k_block]; exact hx _) (fun l => g_entry m c t l y1)]
  simp only [k_block, kw_block]
  blk_point [idx t]

/-- One entry of a query column block: the kernel's normalisation with the head matrix is the head's own. -/
theorem q_entry (A : S1024x8832.Idx → EReal) (B : S1x64.Idx → EReal) (X : S512x1024.Idx → EReal)
    (G : S256x256.Idx → EReal) (W : S1x256.Idx → EReal) (s : Fin 4) (f : Fin 256 → Fin 1024) (r : Fin 512) (j : Fin 256)
    (R : Fin 1024) (J : Fin 1024) (hx : ∀ i, ∃ a : ℝ, A i = (a : EReal))
    (hX : ∀ l : Fin 256, X (ix2 r (f l)) = A (ix2 R ⟨2048 + (256 * s.val + l.val), by omega⟩))
    (hG : ∀ k l : Fin 256, G (ix2 k l) = if k.val / 64 = l.val / 64 then 1 else 0)
    (hW : ∀ k : Fin 256, W (ix2 0 k) = B (ix2 0 ⟨k.val % 64, Nat.mod_lt _ (by decide)⟩))
    (hJ : J.val = 256 * s.val + j.val) :
    X (ix2 r (f j)) * Ideal.rsqrt ((∑ l, X (ix2 r (f l)) * X (ix2 r (f l)) * G (ix2 l j)
        + ∑ l, (X (ix2 r (f l)) * X (ix2 r (f l)) - X (ix2 r (f l)) * X (ix2 r (f l))) * G (ix2 l j))
          * Ideal.ofBits .f32 1015021568#32 + Ideal.ofBits .f32 897988541#32)
      * W (ix2 0 j) * Ideal.ofBits .f32 1040187392#32
    = A (ix2 R ⟨2048 + J.val, by omega⟩)
      * Ideal.rsqrt (Ideal.div (∑ e : Fin 64, A (ix2 R ⟨2048 + (J.val / 64 * 64 + e.val), by omega⟩)
            * A (ix2 R ⟨2048 + (J.val / 64 * 64 + e.val), by omega⟩))
          (Ideal.ofBits .f32 1115684864#32) + Ideal.ofBits .f32 897988541#32)
      * B (ix2 0 ⟨J.val % 64, Nat.mod_lt _ (by decide)⟩) * Ideal.ofBits .f32 1040187392#32 := by
  rw [Cert.Qkv.mean_square (fun l => X (ix2 r (f l))) (fun l => G (ix2 l j)) j
    (fun l => by rw [hX]; exact hx _) (fun l => hG l j), hW]
  simp only [hX]
  have e0 : 2048 + (256 * s.val + j.val) = 2048 + J.val := by omega
  have e1 : ∀ e : Fin 64, 2048 + (256 * s.val + (j.val / 64 * 64 + e.val)) = 2048 + (J.val / 64 * 64 + e.val) := by
    intro e
    omega
  have e2 : j.val % 64 = J.val % 64 := by omega
  simp only [e0, e1, e2]

/-- The queries' array after the run is the reference's, at a projection of real numbers. -/
theorem final_q (hx : ∀ i, ∃ r : ℝ, (m ((c : Thread nD τ).loc main_arg0) i : EReal) = (r : EReal)) :
    (dats m 0 c).arrAt 6 cfg0.N = val_main_v36 (F := Ideal) (m ((c : Thread nD τ).loc main_arg0))
      (m ((c : Thread nD τ).loc main_arg1)) := by
  refine (dats m 0 c).arrAt_eq_of_covers 6 _ (by decide +kernel) fun t hf y => ?_
  blk_simp
  rw [after0_6]
  unfold outsAt0
  frame_out
  have hy0 : (y 0).val < 512 := (y 0).isLt
  have ht : (grid0.coords t 0).val < 2 := (grid0.coords t 0).isLt
  have hy : ((View.whole main_v10_0).slice (win0_6.rect t)).emb y
      = (ix2 ⟨(grid0.coords t 0).val * 512 + (y 0).val, by omega⟩ (y 1) : S1024x1024.Idx) := by
    blk_ext [idx t]
  rw [hy]
  canon_tiles x h
  all_goals
    pointwise [k0_pay1, k0_pay3, k0_pay4, k0_pay5, k0_pay6, k0_pay7, k0_pay8, val_main_v36, val_main_v35, val_main_v19, val_main_v18, val_main_v17, val_main_v16,
      val_main_v15, val_main_v14, val_main_v13, val_main_v12, val_main_v11, val_main_v10, val_main_v9, val_main_v8, val_main_v7,
      val_main_v6, val_main_v5, val_main_v4, val_main_v3, val_main_v0, val_main_cst, val_main_cst_0, val_main_cst_1, val_main_cst_2]
  all_goals
    first
      | refine q_entry _ _ _ _ _ 3 (fun l => ⟨768 + l.val, by omega⟩) _ (x 1) _ _ hx (fun l => ?_) (fun k l => g_entry m c t k l)
          (fun k => qw_block m c t k) h1
      | refine q_entry _ _ _ _ _ 2 (fun l => ⟨512 + l.val, by omega⟩) _ (x 1) _ _ hx (fun l => ?_) (fun k l => g_entry m c t k l)
          (fun k => qw_block m c t k) h1
      | refine q_entry _ _ _ _ _ 1 (fun l => ⟨256 + l.val, by omega⟩) _ (x 1) _ _ hx (fun l => ?_) (fun k l => g_entry m c t k l)
          (fun k => qw_block m c t k) h1
      | refine q_entry _ _ _ _ _ 0 (fun l => ⟨l.val, by omega⟩) _ (x 1) _ _ hx (fun l => ?_) (fun k l => g_entry m c t k l)
          (fun k => qw_block m c t k) (h1.trans (Nat.zero_add _).symm)
    refine (q_block m c t (x 0) _).trans ?_
    exact congrArg _ (congrArg₂ ix2 (Fin.ext (by show _ * 512 + _ = _ * 512 + _; rw [h0]))
      (Fin.ext (by dsimp only; omega)))

end Cert.QkvS
-- ==== Proof.QkvSPre.lean ====
/-
  What the precondition `finite_qkv_sample` says: every entry of the projection is a real number.

  At the sample batch's shape.
-/
module

public import proofs.«01_k».proof.Proof.Gen.Pre_finite_qkv_sample
public import proofs.«01_k».proof.Proof.AttnPre
public import Idealize.ShloMosaic.Lib.Pointwise
public import Idealize.ShloMosaic.Lib.ReduceAll

@[expose] public section

set_option maxRecDepth 16384

noncomputable section

namespace Cert.QkvS.Pre

open Idealize.ShloMosaic Cert.Pre_finite_qkv_sample

variable (x0 : FVec Ideal S1024x8832 .f32) (x1 x2 : FVec Ideal S1x64 .f32)

/-- Under the precondition the projection's entries are real numbers. -/
theorem reals (h : fn (F := Ideal) x0 x1 x2 = fun _ => 1#1) : ∀ i, ∃ r : ℝ, x0 i = (r : EReal) := by
  have h' := congrFun h ix0
  dsimp only [fn] at h'
  haveI : Subsingleton S_.Idx := ⟨fun a b => funext fun k => k.elim0⟩
  exact fun i => Cert.Attn.Pre.real_of_lt _ (Host.reduce_andi_all _ _ _ _ _ h' i)

end Cert.QkvS.Pre
-- ==== Proof.QkvSClaim.lean ====
/-
  The value claim of the normalised queries and keys: over the reals the kernel and the reference return the same three
  arrays.

  At the sample batch's shape.
-/
module

public import proofs.«01_k».proof.Defs
public import proofs.«01_k».proof.Proof.QkvSFinal
public import proofs.«01_k».proof.Proof.QkvSPre
public import proofs.«01_k».proof.Proof.Gen.QkvSRefIdeal.Run

@[expose] public section

noncomputable section

namespace Cert.QkvS

open Idealize.ShloMosaic Idealize.ShloMosaic.TcCoe Idealize.SL.Sem

/-- From a projection of real numbers both programs run and return equal queries, keys and values. -/
theorem algebraic : Cert.algebraic_QkvSIdeal_QkvSRefIdeal_pre_finite_qkv_sample := by
  intro m g m' g' hpre hagree
  refine ⟨fun c => (QkvSIdeal.Gen.dats m 0 c).arrAt 6 QkvSIdeal.cfg0.N, fun c => (QkvSIdeal.Gen.dats m 0 c).arrAt 7 QkvSIdeal.cfg0.N,
    fun c => (QkvSIdeal.Gen.dats m 0 c).arrAt 8 QkvSIdeal.cfg0.N, QkvSIdeal.Value.run_blocks m g, ?_⟩
  refine (θ_run _ _ _).mono (fun r h c => ?_) (QkvSRefIdeal.Value.run m' g')
  obtain ⟨h0, h1, h2, hargs⟩ := h c
  obtain ⟨e0, e1, e2⟩ := hagree c
  have hx := Pre.reals _ _ _ (hpre c)
  beta_reduce
  rw [final_q m c hx, final_k m c hx, final_v m c, ← e0, ← e1, ← e2]
  exact ⟨h0.trans (QkvSRefIdeal.Read.val_main_v36_eq _ _), h1.trans (QkvSRefIdeal.Read.val_main_v37_eq _ _),
    h2.trans (QkvSRefIdeal.Read.val_main_v2_eq _), hargs⟩

end Cert.QkvS
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Pre_finite_attn
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Pre_finite_qkv
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSRefIdeal
public import proofs.«01_k».proof.Proof.Gen.FfnSRefIdeal.Run
public import proofs.«01_k».proof.Proof.Gen.QkvS
public import proofs.«01_k».proof.Proof.Gen.QkvS.Frame
public import proofs.«01_k».proof.Proof.Gen.QkvSIdeal
public import proofs.«01_k».proof.Proof.Gen.QkvSIdeal.Frame
public import proofs.«01_k».proof.Proof.Gen.QkvSIdeal.Value
public import proofs.«01_k».proof.Proof.Gen.QkvSRefIdeal
public import proofs.«01_k».proof.Proof.Gen.QkvSRefIdeal.Run
public import proofs.«01_k».proof.Proof.Gen.QkvSRefIdeal.Read
public import proofs.«01_k».proof.Proof.Gen.ConvS
public import proofs.«01_k».proof.Proof.Gen.ConvS.Frame
public import proofs.«01_k».proof.Proof.Gen.ConvSIdeal
public import proofs.«01_k».proof.Proof.Gen.ConvSIdeal.Frame
public import proofs.«01_k».proof.Proof.Gen.ConvSRefIdeal
public import proofs.«01_k».proof.Proof.Gen.ConvSRefIdeal.Run
public import proofs.«01_k».proof.Proof.Gen.ConvSRefIdeal.Read
public import proofs.«01_k».proof.Proof.Gen.Pre_finite_qkv_sample
public import proofs.«01_k».proof.Proof.AttnClaim
public import proofs.«01_k».proof.Proof.ConvClaim
public import proofs.«01_k».proof.Proof.ConvSClaim
public import proofs.«01_k».proof.Proof.FfnClaim
public import proofs.«01_k».proof.Proof.FfnSClaim
public import proofs.«01_k».proof.Proof.InProjClaim
public import proofs.«01_k».proof.Proof.MergeClaim
public import proofs.«01_k».proof.Proof.QkvClaim
public import proofs.«01_k».proof.Proof.QkvSClaim
public import Idealize.ShloMosaic.Adequacy
public import Idealize.ShloMosaic.Init

@[expose] public section

noncomputable section

namespace Cert.Proof

open Idealize.ShloMosaic Idealize.SL.Sem

/-- The attention's reference runs and leaves its arguments unchanged. -/
theorem frame_attn_ref : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run m g)

/-- The feed-forward block's reference runs and leaves its arguments unchanged. -/
theorem frame_ffn_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- The gated merge's reference runs and leaves its arguments unchanged. -/
theorem frame_merge_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The input projection's reference runs and leaves its arguments unchanged. -/
theorem frame_inproj_ref : Cert.quiescent_InProjRefIdeal := fun m g _ =>
  (θ_run Cert.InProjRefIdeal.defs _ _).mono
    (fun r h => ⟨fun c => (h c).2.2.2.2.2.2.2.2, sem_eq_zero_of_no_sems (by decide) r.2⟩) (Cert.InProjRefIdeal.Value.run m g)

/-- The reference of the normalised queries and keys runs and leaves its arguments unchanged. -/
theorem frame_qkv_ref : Cert.quiescent_QkvRefIdeal := fun m g _ =>
  (θ_run Cert.QkvRefIdeal.defs _ _).mono (fun r h => ⟨fun c => (h c).2.2.2, sem_eq_zero_of_no_sems (by decide) r.2⟩)
    (Cert.QkvRefIdeal.Value.run m g)

/-- The reference of the convolution's new state runs and leaves its arguments unchanged. -/
theorem frame_conv_ref : Cert.quiescent_ConvRefIdeal := fun m g _ =>
  (θ_run Cert.ConvRefIdeal.defs _ _).mono (fun r h => ⟨fun c => (h c).2, sem_eq_zero_of_no_sems (by decide) r.2⟩)
    (Cert.ConvRefIdeal.Value.run m g)

/-- The feed-forward block's reference at the sample batch runs and leaves its arguments unchanged. -/
theorem frame_ffn_sample_ref : Cert.quiescent_FfnSRefIdeal := fun m g _ =>
  (θ_run Cert.FfnSRefIdeal.defs _ _).mono (fun r h => ⟨fun c => (h c).2, sem_eq_zero_of_no_sems (by decide) r.2⟩)
    (Cert.FfnSRefIdeal.Value.run m g)

/-- The reference of the sample batch's normalised queries and keys runs and leaves its arguments unchanged. -/
theorem frame_qkv_sample_ref : Cert.quiescent_QkvSRefIdeal := fun m g _ =>
  (θ_run Cert.QkvSRefIdeal.defs _ _).mono (fun r h => ⟨fun c => (h c).2.2.2, sem_eq_zero_of_no_sems (by decide) r.2⟩)
    (Cert.QkvSRefIdeal.Value.run m g)

/-- The reference of the sample batch's convolution state runs and leaves its arguments unchanged. -/
theorem frame_conv_sample_ref : Cert.quiescent_ConvSRefIdeal := fun m g _ =>
  (θ_run Cert.ConvSRefIdeal.defs _ _).mono (fun r h => ⟨fun c => (h c).2, sem_eq_zero_of_no_sems (by decide) r.2⟩)
    (Cert.ConvSRefIdeal.Value.run m g)

/-- Everything that is claimed. -/
theorem claim : Cert.Claim := ⟨Cert.Attn.Gen.facts, Cert.AttnIdeal.Gen.facts, Cert.AttnRefIdeal.Gen.facts, Cert.Ffn.Gen.facts,
  Cert.FfnIdeal.Gen.facts, Cert.FfnRefIdeal.Gen.facts, Cert.Merge.Gen.facts, Cert.MergeIdeal.Gen.facts,
  Cert.MergeRefIdeal.Gen.facts, Cert.InProj.Gen.facts, Cert.InProjIdeal.Gen.facts, Cert.InProjRefIdeal.Gen.facts,
  Cert.Qkv.Gen.facts, Cert.QkvIdeal.Gen.facts, Cert.QkvRefIdeal.Gen.facts, Cert.Conv.Gen.facts,
  Cert.ConvIdeal.Gen.facts, Cert.ConvRefIdeal.Gen.facts, Cert.FfnS.Gen.facts, Cert.FfnSIdeal.Gen.facts,
  Cert.FfnSRefIdeal.Gen.facts, Cert.QkvS.Gen.facts, Cert.QkvSIdeal.Gen.facts, Cert.QkvSRefIdeal.Gen.facts,
  Cert.ConvS.Gen.facts, Cert.ConvSIdeal.Gen.facts, Cert.ConvSRefIdeal.Gen.facts, Cert.Pre_finite_attn.Gen.facts,
  Cert.Pre_finite_qkv.Gen.facts, Cert.Pre_finite_qkv_sample.Gen.facts,
  fun m g _ => Cert.Attn.Gen.frame m g, fun m g _ => Cert.AttnIdeal.Gen.frame m g, fun m g _ => Cert.AttnIdeal.Gen.frame m g,
  frame_attn_ref, fun m g _ => frame_attn_ref m g trivial,
  fun m g _ => Cert.Ffn.Gen.frame m g, fun m g _ => Cert.FfnIdeal.Gen.frame m g, frame_ffn_ref,
  fun m g _ => Cert.Merge.Gen.frame m g, fun m g _ => Cert.MergeIdeal.Gen.frame m g, frame_merge_ref,
  fun m g _ => Cert.InProj.Gen.frame m g, fun m g _ => Cert.InProjIdeal.Gen.frame m g, frame_inproj_ref,
  fun m g _ => Cert.Qkv.Gen.frame m g, fun m g _ => Cert.QkvIdeal.Gen.frame m g, fun m g _ => Cert.QkvIdeal.Gen.frame m g,
  frame_qkv_ref, fun m g _ => frame_qkv_ref m g trivial,
  fun m g _ => Cert.Conv.Gen.frame m g, fun m g _ => Cert.ConvIdeal.Gen.frame m g, frame_conv_ref,
  fun m g _ => Cert.FfnS.Gen.frame m g, fun m g _ => Cert.FfnSIdeal.Gen.frame m g, frame_ffn_sample_ref,
  fun m g _ => Cert.QkvS.Gen.frame m g, fun m g _ => Cert.QkvSIdeal.Gen.frame m g, fun m g _ => Cert.QkvSIdeal.Gen.frame m g,
  frame_qkv_sample_ref, fun m g _ => frame_qkv_sample_ref m g trivial,
  fun m g _ => Cert.ConvS.Gen.frame m g, fun m g _ => Cert.ConvSIdeal.Gen.frame m g, frame_conv_sample_ref,
  trivial, Cert.Attn.algebraic, trivial, Cert.Ffn.algebraic, trivial, Cert.Merge.algebraic,
  trivial, Cert.InProj.algebraic, trivial, Cert.Qkv.algebraic,
  trivial, Cert.Conv.algebraic, trivial, Cert.FfnS.algebraic, trivial, Cert.QkvS.algebraic,
  trivial, Cert.ConvS.algebraic⟩

end Cert.Proof

end
